-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v4)) (v3 : (c : Dev Cert.KernelIdeal.nD) → Buf (Elt Ideal) ((c.tc : Thread Cert.KernelIdeal.nD Cert.KernelIdeal.τ).loc Cert.KernelIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_v20) = v2 c
          ∧ r.2.mem ((c.tc : Thread Cert.ReferenceIdeal.nD Cert.ReferenceIdeal.τ).loc Cert.ReferenceIdeal.main_v25) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x2048x1024 : Shape := ⟨3, ![32, 2048, 1024]⟩
abbrev S32x2048 : Shape := ⟨2, ![32, 2048]⟩
abbrev S32x2048x16x8 : Shape := ⟨4, ![32, 2048, 16, 8]⟩
abbrev S16x8x64 : Shape := ⟨3, ![16, 8, 64]⟩
abbrev S16 : Shape := ⟨1, ![16]⟩
abbrev S8x128x16 : Shape := ⟨3, ![8, 128, 16]⟩
abbrev S8 : Shape := ⟨1, ![8]⟩
abbrev S32x16x8x2048 : Shape := ⟨4, ![32, 16, 8, 2048]⟩
abbrev S8x16x128 : Shape := ⟨3, ![8, 16, 128]⟩
abbrev S1x2048x1024 : Shape := ⟨3, ![1, 2048, 1024]⟩
abbrev S8x2048 : Shape := ⟨2, ![8, 2048]⟩
abbrev S1x16x8x2048 : Shape := ⟨4, ![1, 16, 8, 2048]⟩
abbrev S256x256 : Shape := ⟨2, ![256, 256]⟩
abbrev S128x256 : Shape := ⟨2, ![128, 256]⟩
abbrev S128x1024 : Shape := ⟨2, ![128, 1024]⟩
abbrev S128x128 : Shape := ⟨2, ![128, 128]⟩
abbrev S8x1024 : Shape := ⟨2, ![8, 1024]⟩
abbrev S1024x2048 : Shape := ⟨2, ![1024, 2048]⟩
abbrev S2x128x128 : Shape := ⟨3, ![2, 128, 128]⟩
abbrev S128x64 : Shape := ⟨2, ![128, 64]⟩
abbrev S64x1024 : Shape := ⟨2, ![64, 1024]⟩
abbrev S1 : Shape := ⟨1, ![1]⟩
abbrev S1x256 : Shape := ⟨2, ![1, 256]⟩
abbrev S1x256x256 : Shape := ⟨3, ![1, 256, 256]⟩
abbrev S32x256 : Shape := ⟨2, ![32, 256]⟩
abbrev S1x16x8x256 : Shape := ⟨4, ![1, 16, 8, 256]⟩
abbrev S16x8x256 : Shape := ⟨3, ![16, 8, 256]⟩
abbrev S1x128x128 : Shape := ⟨3, ![1, 128, 128]⟩
abbrev S32x1 : Shape := ⟨2, ![32, 1]⟩
abbrev S16x128 : Shape := ⟨2, ![16, 128]⟩
abbrev S1x16x128 : Shape := ⟨3, ![1, 16, 128]⟩
abbrev S256x128 : Shape := ⟨2, ![256, 128]⟩
abbrev S16x256 : Shape := ⟨2, ![16, 256]⟩
abbrev S8x64 : Shape := ⟨2, ![8, 64]⟩
abbrev S1x8x64 : Shape := ⟨3, ![1, 8, 64]⟩

abbrev nBuf : Space → Nat
  | .hbm => 18
  | .vmem => 30
  | .smem => 2
  | _ => 0

abbrev bufTy : (tb : Table) → Fin (tcTables nBuf tb) → BufTy
  | .hbm, ⟨0, _⟩ => ⟨S32x2048x1024, .fp8e5m2⟩
  | .hbm, ⟨1, _⟩ => ⟨S32x2048, .f32⟩
  | .hbm, ⟨2, _⟩ => ⟨S32x2048x1024, .fp8e4m3⟩
  | .hbm, ⟨3, _⟩ => ⟨S32x2048, .f32⟩
  | .hbm, ⟨4, _⟩ => ⟨S32x2048x16x8, .fp8e4m3⟩
  | .hbm, ⟨5, _⟩ => ⟨S32x2048, .f32⟩
  | .hbm, ⟨6, _⟩ => ⟨S16x8x64, .fp8e4m3⟩
  | .hbm, ⟨7, _⟩ => ⟨S16, .f32⟩
  | .hbm, ⟨8, _⟩ => ⟨S8x128x16, .fp8e4m3⟩
  | .hbm, ⟨9, _⟩ => ⟨S8, .f32⟩
  | .hbm, ⟨10, _⟩ => ⟨S32x16x8x2048, .fp8e4m3⟩
  | .hbm, ⟨11, _⟩ => ⟨S8x16x128, .fp8e4m3⟩
  | .hbm, ⟨12, _⟩ => ⟨S32x2048x1024, .bf16⟩
  | .hbm, ⟨13, _⟩ => ⟨S32x16x8x2048, .bf16⟩
  | .hbm, ⟨14, _⟩ => ⟨S8x16x128, .f32⟩
  | .hbm, ⟨15, _⟩ => ⟨S16x8x64, .f32⟩
  | .hbm, ⟨16, _⟩ => ⟨S32x2048x16x8, .bf16⟩
  | .hbm, ⟨17, _⟩ => ⟨S8x128x16, .f32⟩
  | .local _ .vmem, ⟨0, _⟩ => ⟨S1x2048x1024, .fp8e5m2⟩
  | .local _ .vmem, ⟨1, _⟩ => ⟨S1x2048x1024, .fp8e5m2⟩
  | .local _ .vmem, ⟨2, _⟩ => ⟨S8x2048, .f32⟩
  | .local _ .vmem, ⟨3, _⟩ => ⟨S8x2048, .f32⟩
  | .local _ .vmem, ⟨4, _⟩ => ⟨S1x2048x1024, .fp8e4m3⟩
  | .local _ .vmem, ⟨5, _⟩ => ⟨S1x2048x1024, .fp8e4m3⟩
  | .local _ .vmem, ⟨6, _⟩ => ⟨S8x2048, .f32⟩
  | .local _ .vmem, ⟨7, _⟩ => ⟨S8x2048, .f32⟩
  | .local _ .vmem, ⟨8, _⟩ => ⟨S1x16x8x2048, .fp8e4m3⟩
  | .local _ .vmem, ⟨9, _⟩ => ⟨S1x16x8x2048, .fp8e4m3⟩
  | .local _ .vmem, ⟨10, _⟩ => ⟨S8x2048, .f32⟩
  | .local _ .vmem, ⟨11, _⟩ => ⟨S8x2048, .f32⟩
  | .local _ .vmem, ⟨12, _⟩ => ⟨S16x8x64, .fp8e4m3⟩
  | .local _ .vmem, ⟨13, _⟩ => ⟨S8x16x128, .fp8e4m3⟩
  | .local _ .vmem, ⟨14, _⟩ => ⟨S1x2048x1024, .bf16⟩
  | .local _ .vmem, ⟨15, _⟩ => ⟨S1x2048x1024, .bf16⟩
  | .local _ .vmem, ⟨16, _⟩ => ⟨S1x16x8x2048, .bf16⟩
  | .local _ .vmem, ⟨17, _⟩ => ⟨S1x16x8x2048, .bf16⟩
  | .local _ .vmem, ⟨18, _⟩ => ⟨S8x16x128, .f32⟩
  | .local _ .vmem, ⟨19, _⟩ => ⟨S16x8x64, .f32⟩
  | .local _ .vmem, ⟨20, _⟩ => ⟨S256x256, .fp8e4m3⟩
  | .local _ .vmem, ⟨21, _⟩ => ⟨S128x256, .fp8e4m3⟩
  | .local _ .vmem, ⟨22, _⟩ => ⟨S128x1024, .bf16⟩
  | .local _ .vmem, ⟨23, _⟩ => ⟨S128x128, .f32⟩
  | .local _ .vmem, ⟨24, _⟩ => ⟨S8x1024, .f32⟩
  | .local _ .vmem, ⟨25, _⟩ => ⟨S128x256, .f32⟩
  | .local _ .vmem, ⟨26, _⟩ => ⟨S128x256, .f32⟩
  | .local _ .vmem, ⟨27, _⟩ => ⟨S1024x2048, .fp8e5m2⟩
  | .local _ .vmem, ⟨28, _⟩ => ⟨S2x128x128, .f32⟩
  | .local _ .vmem, ⟨29, _⟩ => ⟨S2x128x128, .f32⟩
  | .local _ .smem, ⟨0, _⟩ => ⟨S16, .f32⟩
  | .local _ .smem, ⟨1, _⟩ => ⟨S8, .f32⟩
  | _, _ => ⟨S32x2048x1024, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2_0 : Ref sig .tc := ⟨.hbm, 12, rfl⟩
abbrev main_v2_1 : Ref sig .tc := ⟨.hbm, 13, rfl⟩
abbrev main_v2_2 : Ref sig .tc := ⟨.hbm, 14, rfl⟩
abbrev main_v2_3 : Ref sig .tc := ⟨.hbm, 15, rfl⟩
abbrev main_v3 : Ref sig .tc := ⟨.hbm, 16, rfl⟩
abbrev main_v4 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg8_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg13_0 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_scratch6 : Ref sig .tc := ⟨.vmem, 26, rfl⟩
abbrev cc0_scratch7 : Ref sig .tc := ⟨.vmem, 27, rfl⟩
abbrev cc0_scratch8 : Ref sig .tc := ⟨.vmem, 28, rfl⟩
abbrev cc0_scratch9 : Ref sig .tc := ⟨.vmem, 29, rfl⟩
abbrev cc0_stg7_0 : Ref sig .tc := ⟨.smem, 0, rfl⟩
abbrev cc0_stg9_0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem13_0 : DmaSem sig := 21

abbrev nD : Nat := 1
abbrev τ : Topo := Topo.v7x

variable {F : FTy → Type} [FloatOps F]

abbrev grid0 : Pipeline.Grid := ⟨2, ![32, 1], ![false, false]⟩

def k0_mult1 (i : grid0.Coords) : BitVec 32 :=
  let arg1 : BitVec 32 := BitVec.ofNat 32 (i 1).val
  let c2048_i32 : BitVec 32 := 2048#32
  let v18 : BitVec 32 := Scalar.muli arg1 c2048_i32
  let c0_i32_7 : BitVec 32 := 0#32
  let v19 : BitVec 32 := Scalar.addi v18 c0_i32_7
  v19
def k0_off1 (i : grid0.Coords) (c0_i32_7 : BitVec 32) : Fin 2 → Nat :=
  let arg0 : BitVec 32 := BitVec.ofNat 32 (i 0).val
  let c8_i32 : BitVec 32 := 8#32
  let c0_i32_3 : BitVec 32 := 0#32
  let v8 : BitVec 1 := Scalar.cmpi .eq c8_i32 c0_i32_3
  let c1_i32 : BitVec 32 := 1#32
  let v9 : BitVec 32 := Scalar.select v8 c1_i32 c8_i32
  let v10 : BitVec 32 := Scalar.remsi arg0 v9
  let c0_i32_5 : BitVec 32 := 0#32
  let v12 : BitVec 1 := Scalar.cmpi .slt v10 c0_i32_5
  let c0_i32_6 : BitVec 32 := 0#32
  let v13 : BitVec 1 := Scalar.cmpi .slt v9 c0_i32_6
  let v14 : BitVec 1 := Scalar.xori v12 v13
  let c0_i32_4 : BitVec 32 := 0#32
  let v11 : BitVec 1 := Scalar.cmpi .ne v10 c0_i32_4
  let v15 : BitVec 1 := Scalar.andi v14 v11
  let v16 : BitVec 32 := Scalar.addi v10 v9
  let v17 : BitVec 32 := Scalar.select v15 v16 v10
  let v21 : Index := Scalar.indexCast v17
  let arg1 : BitVec 32 := BitVec.ofNat 32 (i 1).val
  let c2048_i32 : BitVec 32 := 2048#32
  let v18 : BitVec 32 := Scalar.muli arg1 c2048_i32
  let v19 : BitVec 32 := Scalar.addi v18 c0_i32_7
  let v20 : BitVec 32 := v19
  let v22 : Index := Scalar.indexCast v20
  ![v21.toNat, v22.toNat]
def k0_mult2 (i : grid0.Coords) : BitVec 32 :=
  let arg1 : BitVec 32 := BitVec.ofNat 32 (i 1).val
  let c2048_i32_260 : BitVec 32 := 2048#32
  let v420 : BitVec 32 := Scalar.muli arg1 c2048_i32_260
  let c256_i32 : BitVec 32 := 256#32
  let v421 : BitVec 32 := Scalar.addi v420 c256_i32
  v421
def k0_mult3 (i : grid0.Coords) : BitVec 32 :=
  let arg1 : BitVec 32 := BitVec.ofNat 32 (i 1).val
  let c2048_i32_553 : BitVec 32 := 2048#32
  let v830 : BitVec 32 := Scalar.muli arg1 c2048_i32_553
  let c512_i32 : BitVec 32 := 512#32
  let v831 : BitVec 32 := Scalar.addi v830 c512_i32
  v831
def k0_mult4 (i : grid0.Coords) : BitVec 32 :=
  let arg1 : BitVec 32 := BitVec.ofNat 32 (i 1).val
  let c2048_i32_846 : BitVec 32 := 2048#32
  let v1240 : BitVec 32 := Scalar.muli arg1 c2048_i32_846
  let c768_i32 : BitVec 32 := 768#32
  let v1241 : BitVec 32 := Scalar.addi v1240 c768_i32
  v1241
def k0_mult5 (i : grid0.Coords) : BitVec 32 :=
  let arg1 : BitVec 32 := BitVec.ofNat 32 (i 1).val
  let c2048_i32_1139 : BitVec 32 := 2048#32
  let v1650 : BitVec 32 := Scalar.muli arg1 c2048_i32_1139
  let c1024_i32 : BitVec 32 := 1024#32
  let v1651 : BitVec 32 := Scalar.addi v1650 c1024_i32
  v1651
def k0_mult6 (i : grid0.Coords) : BitVec 32 :=
  let arg1 : BitVec 32 := BitVec.ofNat 32 (i 1).val
  let c2048_i32_1431 : BitVec 32 := 2048#32
  let v2060 : BitVec 32 := Scalar.muli arg1 c2048_i32_1431
  let c1280_i32 : BitVec 32 := 1280#32
  let v2061 : BitVec 32 := Scalar.addi v2060 c1280_i32
  v2061
def k0_mult7 (i : grid0.Coords) : BitVec 32 :=
  let arg1 : BitVec 32 := BitVec.ofNat 32 (i 1).val
  let c2048_i32_1723 : BitVec 32 := 2048#32
  let v2470 : BitVec 32 := Scalar.muli arg1 c2048_i32_1723
  let c1536_i32 : BitVec 32 := 1536#32
  let v2471 : BitVec 32 := Scalar.addi v2470 c1536_i32
  v2471
def k0_mult8 (i : grid0.Coords) : BitVec 32 :=
  let arg1 : BitVec 32 := BitVec.ofNat 32 (i 1).val
  let c2048_i32_2015 : BitVec 32 := 2048#32
  let v2880 : BitVec 32 := Scalar.muli arg1 c2048_i32_2015
  let c1792_i32 : BitVec 32 := 1792#32
  let v2881 : BitVec 32 := Scalar.addi v2880 c1792_i32
  v2881
def k0_cond2 (i : grid0.Coords) : BitVec 1 :=
  let arg0 : BitVec 32 := BitVec.ofNat 32 (i 0).val
  let c31_i32 : BitVec 32 := 31#32
  let v3 : BitVec 1 := Scalar.cmpi .eq arg0 c31_i32
  let arg1 : BitVec 32 := BitVec.ofNat 32 (i 1).val
  let c0_i32_1 : BitVec 32 := 0#32
  let v4 : BitVec 1 := Scalar.cmpi .eq arg1 c0_i32_1
  let v5 : BitVec 1 := Scalar.andi v3 v4
  let v3330 : BitVec 32 := Scalar.extui v5
  let c0_i32_2339 : BitVec 32 := 0#32
  let v3331 : BitVec 1 := Scalar.cmpi .ne v3330 c0_i32_2339
  v3331

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1x2048x1024 .fp8e5m2 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1024 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x16x8x2048 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S16x8x64 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .smem S16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S8x16x128 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .smem S8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x2048x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x16x8x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S8x16x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S16x8x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]
-- ==== ReferenceIdeal.lean ====
abbrev S32x2048x1024 : Shape := ⟨3, ![32, 2048, 1024]⟩
abbrev S32x2048 : Shape := ⟨2, ![32, 2048]⟩
abbrev S32x2048x16x8 : Shape := ⟨4, ![32, 2048, 16, 8]⟩
abbrev S16x8x64 : Shape := ⟨3, ![16, 8, 64]⟩
abbrev S16 : Shape := ⟨1, ![16]⟩
abbrev S8x128x16 : Shape := ⟨3, ![8, 128, 16]⟩
abbrev S8 : Shape := ⟨1, ![8]⟩
abbrev S32x2048x128x8 : Shape := ⟨4, ![32, 2048, 128, 8]⟩
abbrev S32x2048x16x64 : Shape := ⟨4, ![32, 2048, 16, 64]⟩
abbrev S8x16x32x2048 : Shape := ⟨4, ![8, 16, 32, 2048]⟩
abbrev S32x2048x1x1 : Shape := ⟨4, ![32, 2048, 1, 1]⟩
abbrev S1x1x1x8 : Shape := ⟨4, ![1, 1, 1, 8]⟩
abbrev S16x64x32x2048 : Shape := ⟨4, ![16, 64, 32, 2048]⟩
abbrev S1x1x16x1 : Shape := ⟨4, ![1, 1, 16, 1]⟩

abbrev nBuf : Space → Nat
  | .hbm => 47
  | .vmem => 10
  | .smem => 0
  | _ => 0

abbrev bufTy : (tb : Table) → Fin (tcTables nBuf tb) → BufTy
  | .hbm, ⟨0, _⟩ => ⟨S32x2048x1024, .fp8e5m2⟩
  | .hbm, ⟨1, _⟩ => ⟨S32x2048, .f32⟩
  | .hbm, ⟨2, _⟩ => ⟨S32x2048x1024, .fp8e4m3⟩
  | .hbm, ⟨3, _⟩ => ⟨S32x2048, .f32⟩
  | .hbm, ⟨4, _⟩ => ⟨S32x2048x16x8, .fp8e4m3⟩
  | .hbm, ⟨5, _⟩ => ⟨S32x2048, .f32⟩
  | .hbm, ⟨6, _⟩ => ⟨S16x8x64, .fp8e4m3⟩
  | .hbm, ⟨7, _⟩ => ⟨S16, .f32⟩
  | .hbm, ⟨8, _⟩ => ⟨S8x128x16, .fp8e4m3⟩
  | .hbm, ⟨9, _⟩ => ⟨S8, .f32⟩
  | .hbm, ⟨10, _⟩ => ⟨S32x2048x1024, .bf16⟩
  | .hbm, ⟨11, _⟩ => ⟨S32x2048x1024, .bf16⟩
  | .hbm, ⟨12, _⟩ => ⟨S32x2048x16x8, .bf16⟩
  | .hbm, ⟨13, _⟩ => ⟨S16x8x64, .bf16⟩
  | .hbm, ⟨14, _⟩ => ⟨S8x128x16, .bf16⟩
  | .hbm, ⟨15, _⟩ => ⟨S32x2048x128x8, .bf16⟩
  | .hbm, ⟨16, _⟩ => ⟨S32x2048x16x64, .bf16⟩
  | .hbm, ⟨17, _⟩ => ⟨S8x16x32x2048, .f32⟩
  | .hbm, ⟨18, _⟩ => ⟨S32x2048x16x8, .f32⟩
  | .hbm, ⟨19, _⟩ => ⟨S32x2048x1x1, .f32⟩
  | .hbm, ⟨20, _⟩ => ⟨S32x2048x16x8, .f32⟩
  | .hbm, ⟨21, _⟩ => ⟨S32x2048x16x8, .f32⟩
  | .hbm, ⟨22, _⟩ => ⟨S1x1x1x8, .f32⟩
  | .hbm, ⟨23, _⟩ => ⟨S32x2048x16x8, .f32⟩
  | .hbm, ⟨24, _⟩ => ⟨S32x2048x16x8, .f32⟩
  | .hbm, ⟨25, _⟩ => ⟨S32x2048x16x8, .bf16⟩
  | .hbm, ⟨26, _⟩ => ⟨S32x2048, .bf16⟩
  | .hbm, ⟨27, _⟩ => ⟨S32x2048x1x1, .bf16⟩
  | .hbm, ⟨28, _⟩ => ⟨S32x2048x128x8, .bf16⟩
  | .hbm, ⟨29, _⟩ => ⟨S32x2048x128x8, .bf16⟩
  | .hbm, ⟨30, _⟩ => ⟨S32x2048, .bf16⟩
  | .hbm, ⟨31, _⟩ => ⟨S32x2048x1x1, .bf16⟩
  | .hbm, ⟨32, _⟩ => ⟨S32x2048x16x8, .bf16⟩
  | .hbm, ⟨33, _⟩ => ⟨S32x2048x16x8, .bf16⟩
  | .hbm, ⟨34, _⟩ => ⟨S8x128x16, .f32⟩
  | .hbm, ⟨35, _⟩ => ⟨S32x2048, .bf16⟩
  | .hbm, ⟨36, _⟩ => ⟨S32x2048x1x1, .bf16⟩
  | .hbm, ⟨37, _⟩ => ⟨S32x2048x16x64, .bf16⟩
  | .hbm, ⟨38, _⟩ => ⟨S32x2048x16x64, .bf16⟩
  | .hbm, ⟨39, _⟩ => ⟨S16x8x64, .f32⟩
  | .hbm, ⟨40, _⟩ => ⟨S16x64x32x2048, .f32⟩
  | .hbm, ⟨41, _⟩ => ⟨S32x2048x16x64, .f32⟩
  | .hbm, ⟨42, _⟩ => ⟨S1x1x16x1, .f32⟩
  | .hbm, ⟨43, _⟩ => ⟨S32x2048x16x64, .f32⟩
  | .hbm, ⟨44, _⟩ => ⟨S32x2048x16x64, .f32⟩
  | .hbm, ⟨45, _⟩ => ⟨S32x2048x1024, .f32⟩
  | .hbm, ⟨46, _⟩ => ⟨S32x2048x1024, .bf16⟩
  | .local _ .vmem, ⟨0, _⟩ => ⟨S32x2048x1024, .fp8e5m2⟩
  | .local _ .vmem, ⟨1, _⟩ => ⟨S32x2048x1024, .fp8e4m3⟩
  | .local _ .vmem, ⟨2, _⟩ => ⟨S32x2048x16x8, .fp8e4m3⟩
  | .local _ .vmem, ⟨3, _⟩ => ⟨S16x8x64, .fp8e4m3⟩
  | .local _ .vmem, ⟨4, _⟩ => ⟨S8x128x16, .fp8e4m3⟩
  | .local _ .vmem, ⟨5, _⟩ => ⟨S32x2048x1024, .bf16⟩
  | .local _ .vmem, ⟨6, _⟩ => ⟨S32x2048x1024, .bf16⟩
  | .local _ .vmem, ⟨7, _⟩ => ⟨S32x2048x16x8, .bf16⟩
  | .local _ .vmem, ⟨8, _⟩ => ⟨S16x8x64, .bf16⟩
  | .local _ .vmem, ⟨9, _⟩ => ⟨S8x128x16, .bf16⟩
  | _, _ => ⟨S32x2048x1024, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S32x2048x1024 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x2048x1024 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x2048x16x8 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x8x64 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x128x16 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x2048x16x8 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16x8x64 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8x128x16 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Model.lean ====
/-
  The body of the kernel as a function of what it loads.

  One grid point of the kernel walks 8 chunks of 256 tokens and, in each, 4 tiles of the middle axis. The generated run
  modules give what the body stores as lists of pieces, one payload written out per chunk and tile. Here the same lists are
  given once, with the chunk `c` and the tile `j` as parameters. The three run modules differ only in where the
  weights are read from (stores of the same point, or the scratch that the point before left), so the weights enter as load functions.
-/
module

public import proofs.«01_k».proof.Proof.Gen.KernelIdeal.Frame.Runs

@[expose] public section

set_option maxRecDepth 16384

noncomputable section

namespace Cert.KernelIdeal.Model

open Idealize.ShloMosaic Idealize.SL.Sem Cert.KernelIdeal.Gen

variable {F : FTy → Type} [FloatOps F]

/-- A box load of a buffer of shape `s`. -/
abbrev Load (F : FTy → Type) [FloatOps F] (s : Shape) (e : EltTy) : Type :=
  (B : LoadRect s) → B.shape.Idx → Elt F e

/-- What one grid point reads: its six activation blocks, the five prepared weights, and the views of the three
    scratch buffers it fills before it reads them. -/
structure Ins (F : FTy → Type) [FloatOps F] where
  /-- the grid point -/
  i : grid0.Coords
  /-- the block of `dy` and its scale -/
  dy : Load F S1x2048x1024 .fp8e5m2
  dys : Load F S8x2048 .f32
  /-- the block of `x` and its scale -/
  x : Load F S1x2048x1024 .fp8e4m3
  xs : Load F S8x2048 .f32
  /-- the block of `h` and its scale -/
  h : Load F S1x16x8x2048 .fp8e4m3
  hs : Load F S8x2048 .f32
  /-- the permutation, `l` and `r` spread over their tiles, and the two scales over rows and lanes -/
  perm : Load F S256x256 .fp8e4m3
  lt : Load F S128x256 .fp8e4m3
  rb : Load F S128x1024 .bf16
  lsc : Load F S128x128 .f32
  rsr : Load F S8x1024 .f32
  /-- the scratch of permuted `dy`, of scaled `h`, and of `dh` -/
  v23 : Memref sig .tc .vmem S1024x2048 .fp8e5m2
  v24 : Memref sig .tc .vmem S2x128x128 .f32
  v25 : Memref sig .tc .vmem S2x128x128 .f32

/-! ### Boxes -/

theorem inb2 {a b p q P Q : ℕ} (h0 : a + p ≤ P) (h1 : b + q ≤ Q) :
    ∀ x, (![a, b] : Fin 2 → ℕ) x + (⟨2, ![p, q]⟩ : Shape).size x ≤ (⟨2, ![P, Q]⟩ : Shape).size x := by
  intro x; fin_cases x
  · exact h0
  · exact h1

theorem inb3 {a b c p q r P Q R : ℕ} (h0 : a + p ≤ P) (h1 : b + q ≤ Q) (h2 : c + r ≤ R) :
    ∀ x, (![a, b, c] : Fin 3 → ℕ) x + (⟨3, ![p, q, r]⟩ : Shape).size x ≤ (⟨3, ![P, Q, R]⟩ : Shape).size x := by
  intro x; fin_cases x
  · exact h0
  · exact h1
  · exact h2

theorem inb4 {a b c d p q r s P Q R S : ℕ} (h0 : a + p ≤ P) (h1 : b + q ≤ Q) (h2 : c + r ≤ R) (h3 : d + s ≤ S) :
    ∀ x, (![a, b, c, d] : Fin 4 → ℕ) x + (⟨4, ![p, q, r, s]⟩ : Shape).size x ≤ (⟨4, ![P, Q, R, S]⟩ : Shape).size x := by
  intro x; fin_cases x
  · exact h0
  · exact h1
  · exact h2
  · exact h3

theorem inbRow {v q : ℕ} (hv : v < 2) (hq : q < 8) :
    ∀ a, S1x16x128.size a = 0 ∨
      (![v, q, 0] : Fin 3 → ℕ) a + (![1, 8, 1] : Fin 3 → ℕ) a * (S1x16x128.size a - 1) < S2x128x128.size a := by
  intro a; right; fin_cases a
  · show v + 1 * (1 - 1) < 2; omega
  · show q + 8 * (16 - 1) < 128; omega
  · show 0 + 1 * (128 - 1) < 128; omega

/-- Rows `q*32 …` of a 256-row product are in range. -/
theorem slQ (q : Fin 8) : S256x256.Slices ![q.val * 32, 0] S32x256 := by revert q; decide
theorem slJ (j : Fin 4) : S128x256.Slices ![j.val * 32, 0] S32x256 := by revert j; decide
theorem slHV (h v : Fin 2) : S32x256.Slices ![h.val * 16, v.val * 128] S16x128 := by revert h v; decide

/-- The box of 256 tokens and 256 lanes of a block of `dy` or `x`: chunk `c`, tile `j`. -/
abbrev tokBox (c : ℕ) (j : Fin 4) : Rect S1x2048x1024 :=
  Rect.unit ![0, c % 8 * 256, j.val * 256] S1x256x256.size
    (inb3 (by omega) (by omega) (by have := j.isLt; omega))

/-- The box of chunk `c` of a row of token scales. -/
abbrev scBox (i : grid0.Coords) (c : ℕ) : Rect S8x2048 :=
  Rect.unit (k0_off1 i (BitVec.ofNat 32 (256 * (c % 8)))) S1x256.size (k0_off1_inb i ⟨c % 8, Nat.mod_lt _ (by decide)⟩)

/-- The box of chunk `c` of a block of `h` or `dh`. -/
abbrev hBox (c : ℕ) : Rect S1x16x8x2048 :=
  Rect.unit ![0, 0, 0, c % 8 * 256] S1x16x8x256.size
    (inb4 (by omega) (by omega) (by omega) (by omega))

/-- Where the 32 rows of digit `q` of tile `i`, chunk `c`, lie in the permuted `dy`. -/
abbrev dypBox (c : ℕ) (i : Fin 4) (q : Fin 8) : Rect S1024x2048 :=
  Rect.unit ![q.val * 128 + i.val * 32, c % 8 * 256] S32x256.size
    (inb2 (by have := i.isLt; have := q.isLt; omega) (by omega))

/-- The 256 rows of tile `j`, chunk `c`, of the permuted `dy`. -/
abbrev dypTile (c : ℕ) (j : Fin 4) : Rect S1024x2048 :=
  Rect.unit ![j.val * 256, c % 8 * 256] S256x256.size
    (inb2 (by have := j.isLt; omega) (by omega))

/-- Every eighth row from row `q` of half `v`. -/
abbrev rowBox (v : Fin 2) (q : Fin 8) : Rect S2x128x128 :=
  { off := ![v.val, q.val, 0], size := S1x16x128.size, stride := ![1, 8, 1],
    inb := inbRow v.isLt q.isLt, stride_pos := spos_1_8_1 }

/-- Half `v` of the 256 tokens of a chunk, all 128 rows. -/
abbrev halfBox (v : Fin 2) : Rect S2x128x128 :=
  Rect.unit ![v.val, 0, 0] S1x128x128.size (inb3 (by have := v.isLt; omega) (by omega) (by omega))

abbrev ltBox (j : Fin 4) : Rect S128x256 :=
  Rect.unit ![j.val * 32, 0] S32x256.size (inb2 (by have := j.isLt; omega) (by omega))
abbrev lscBox (j : Fin 4) : Rect S128x128 :=
  Rect.unit ![j.val * 32, 0] S32x1.size (inb2 (by have := j.isLt; omega) (by omega))
abbrev rbBox (j : Fin 4) : Rect S128x1024 :=
  Rect.unit ![0, j.val * 256] S128x256.size (inb2 (by omega) (by have := j.isLt; omega))
abbrev rsrBox (j : Fin 4) : Rect S8x1024 :=
  Rect.unit ![0, j.val * 256] S1x256.size (inb2 (by omega) (by have := j.isLt; omega))

/-! ### Token scales -/

/-- The scale of `dy` over chunk `c`, as loaded and through bf16. -/
def dyS (I : Ins F) (c : ℕ) : Vec F S1x256 .f32 := I.dys (scBox I.i c).toLoadRect
def dyS16 (I : Ins F) (c : ℕ) : FVec F S1x256 .f32 := k0_pay143 (dyS I c)
def xS16 (I : Ins F) (c : ℕ) : FVec F S1x256 .f32 := k0_pay143 (I.xs (scBox I.i c).toLoadRect)
def hS16 (I : Ins F) (c : ℕ) : FVec F S1x256 .f32 := k0_pay143 (I.hs (scBox I.i c).toLoadRect)

/-! ### The permuted `dy` -/

/-- The product of the permutation and tile `i` of chunk `c` of `dy`. -/
def dypProd (I : Ins F) (c : ℕ) (i : Fin 4) : FVec F S256x256 .fp8e5m2 :=
  k0_pay146 (I.perm (Rect.unit ![0, 0] S256x256.size inb_S256x256_S256x256_0_0).toLoadRect) (I.dy (tokBox c i).toLoadRect)

def dypPiece (I : Ins F) (c : ℕ) (i : Fin 4) (q : Fin 8) : View.Piece (Elt F) S1024x2048 .fp8e5m2 :=
  ⟨dypBox c i q, shapeCast S32x256 (extractStridedSlice S32x256 ![q.val * 32, 0] (dypProd I c i) (slQ q))
    shapeCasts_S32x256_S32x256⟩

/-- The eight stores of tile `i`, last first, over earlier stores. -/
def dypTilePieces (I : Ins F) (c : ℕ) (i : Fin 4) (L : List (View.Piece (Elt F) S1024x2048 .fp8e5m2)) :
    List (View.Piece (Elt F) S1024x2048 .fp8e5m2) :=
  dypPiece I c i 7 :: dypPiece I c i 6 :: dypPiece I c i 5 :: dypPiece I c i 4 ::
  dypPiece I c i 3 :: dypPiece I c i 2 :: dypPiece I c i 1 :: dypPiece I c i 0 :: L

/-- The stores into the permuted `dy` of the first `n` chunks, last first. -/
def dyp (I : Ins F) : ℕ → List (View.Piece (Elt F) S1024x2048 .fp8e5m2)
  | 0 => []
  | n + 1 => dypTilePieces I n 3 (dypTilePieces I n 2 (dypTilePieces I n 1
      (dypTilePieces I n 0 (dyp I n))))

def dypLd (I : Ins F) (c : ℕ) (j : Fin 4) : Vec F S256x256 .fp8e5m2 :=
  I.v23.view.readCov (dyp I (c + 1)) (dypTile c j).toLoadRect

/-! ### `dh` -/

/-- Tile `j` of `dh` over chunk `c`: `l` times the permuted `dy`, scaled. -/
def acc (I : Ins F) (c : ℕ) (j : Fin 4) : FVec F S32x256 .f32 :=
  k0_pay113 (dyS I c) (I.lt (ltBox j).toLoadRect) (dypLd I c j) (I.lsc (lscBox j).toLoadRect)

/-- The store of half `v` of the rows of digit `2 j + h`. -/
def dhqPiece (I : Ins F) (c : ℕ) (j : Fin 4) (h v : Fin 2) : View.Piece (Elt F) S2x128x128 .f32 :=
  ⟨rowBox v ⟨j.val * 2 + h.val, by omega⟩,
    shapeCast S1x16x128 (extractStridedSlice S16x128 ![h.val * 16, v.val * 128] (acc I c j) (slHV h v))
      shapeCasts_S16x128_S1x16x128⟩

def dhqTilePieces (I : Ins F) (c : ℕ) (j : Fin 4) (L : List (View.Piece (Elt F) S2x128x128 .f32)) :
    List (View.Piece (Elt F) S2x128x128 .f32) :=
  dhqPiece I c j 1 1 :: dhqPiece I c j 1 0 :: dhqPiece I c j 0 1 :: dhqPiece I c j 0 0 :: L

/-- The stores of `dh` of the first `n` chunks, last first. -/
def dhq (I : Ins F) : ℕ → List (View.Piece (Elt F) S2x128x128 .f32)
  | 0 => []
  | n + 1 => dhqTilePieces I n 3 (dhqTilePieces I n 2 (dhqTilePieces I n 1
      (dhqTilePieces I n 0 (dhq I n))))

def dhLd (I : Ins F) (c : ℕ) (v : Fin 2) : Vec F S1x128x128 .f32 :=
  I.v25.view.readCov (dhq I (c + 1)) (halfBox v).toLoadRect

/-- The store of chunk `c` of `dh`. -/
def dhPiece (I : Ins F) (c : ℕ) : View.Piece (Elt F) S1x16x8x2048 .bf16 :=
  ⟨hBox c, k0_pay125 (dhLd I c 0) (dhLd I c 1)⟩

/-- The stores of `dh` of the first `n` chunks, last first. -/
def dhPieces (I : Ins F) : ℕ → List (View.Piece (Elt F) S1x16x8x2048 .bf16)
  | 0 => []
  | n + 1 => dhPiece I n :: dhPieces I n

/-! ### `dx` -/

/-- The store of chunk `c`, tile `j` of `dx`. -/
def dxPiece (I : Ins F) (c : ℕ) (j : Fin 4) : View.Piece (Elt F) S1x2048x1024 .bf16 :=
  ⟨tokBox c j, k0_pay130 (k0_pay127 (dhLd I c 0) (dhLd I c 1)) (I.rb (rbBox j).toLoadRect) (I.rsr (rsrBox j).toLoadRect)⟩

/-- The stores of `dx` of the first `n` chunks, last first. -/
def dxPieces (I : Ins F) : ℕ → List (View.Piece (Elt F) S1x2048x1024 .bf16)
  | 0 => []
  | n + 1 => dxPiece I n 3 :: dxPiece I n 2 :: dxPiece I n 1 :: dxPiece I n 0 ::
      dxPieces I n

/-! ### The gradient of `l` -/

/-- The store of half `v` of the scaled `h` of chunk `c`. -/
def hqPiece0 (I : Ins F) (c : ℕ) : View.Piece (Elt F) S2x128x128 .f32 :=
  ⟨halfBox 0, k0_pay99 (dyS16 I c) (hS16 I c) (I.h (hBox c).toLoadRect)⟩
def hqPiece1 (I : Ins F) (c : ℕ) : View.Piece (Elt F) S2x128x128 .f32 :=
  ⟨halfBox 1, k0_pay100 (dyS16 I c) (hS16 I c) (I.h (hBox c).toLoadRect)⟩

def hq (I : Ins F) : ℕ → List (View.Piece (Elt F) S2x128x128 .f32)
  | 0 => []
  | n + 1 => hqPiece1 I n :: hqPiece0 I n :: hq I n

/-- Half `v` of the rows of digit `q` of the scaled `h`. -/
def hqLd (I : Ins F) (c : ℕ) (v : Fin 2) (q : Fin 8) : Vec F S1x16x128 .f32 :=
  I.v24.view.readCov (hq I (c + 1)) (rowBox v q).toLoadRect

/-- Chunk `c`'s term of tile `j` of the gradient of `l`. -/
def dl (I : Ins F) (c : ℕ) (j : Fin 4) : FVec F S32x256 .f32 :=
  k0_pay128 (hqLd I c 0 ⟨j.val * 2 + 0, by omega⟩) (hqLd I c 1 ⟨j.val * 2 + 0, by omega⟩)
    (hqLd I c 0 ⟨j.val * 2 + 1, by omega⟩) (hqLd I c 1 ⟨j.val * 2 + 1, by omega⟩) (dypLd I c j)

/-! ### The gradient of `r` -/

def xLd (I : Ins F) (c : ℕ) (j : Fin 4) : Vec F S1x256x256 .fp8e4m3 := I.x (tokBox c j).toLoadRect

/-- Chunk `c`'s term of tile `j` of the gradient of `r`. -/
def dr (I : Ins F) (c : ℕ) (j : Fin 4) : FVec F S32x256 .f32 :=
  matmul dot_S32x256_S256x256_S32x256_1_0_0_1_n_n none
    (extractStridedSlice S32x256 ![j.val * 32, 0] (k0_pay126 (xS16 I c) (dhLd I c 0) (dhLd I c 1)) (slJ j))
    (shapeCast S256x256 (xLd I c j) shapeCasts_S1x256x256_S256x256)
    (constant S32x256 .f32 0x00000000#32)

/-! ### Sums over the chunks and over the points -/

/-- The left fold of the terms of the chunks up to `n`. -/
def sumTo (t : ℕ → FVec F S32x256 .f32) : ℕ → FVec F S32x256 .f32
  | 0 => t 0
  | n + 1 => addf (sumTo t n) (t (n + 1))

/-- One store into an accumulator: tile `j` of what it held, and the point's term. -/
def accPiece (old : Vec F S32x256 .f32) (t : FVec F S32x256 .f32) (j : Fin 4) : View.Piece (Elt F) S128x256 .f32 :=
  ⟨ltBox j, shapeCast S32x256 (addf old t) shapeCasts_S32x256_S32x256⟩

/-- The four stores into an accumulator over what it held (`old`), last first. -/
def accPieces (old : Load F S128x256 .f32) (t : Fin 4 → FVec F S32x256 .f32) : List (View.Piece (Elt F) S128x256 .f32) :=
  [accPiece (old (ltBox 3).toLoadRect) (t 3) 3, accPiece (old (ltBox 2).toLoadRect) (t 2) 2,
   accPiece (old (ltBox 1).toLoadRect) (t 1) 1, accPiece (old (ltBox 0).toLoadRect) (t 0) 0]

/-- The stores of the first `n` tiles into an accumulator over the stores `L` of the same point, read back. -/
def accOver (v : Memref sig .tc .vmem S128x256 .f32) (L : List (View.Piece (Elt F) S128x256 .f32))
    (t : Fin 4 → FVec F S32x256 .f32) : (n : ℕ) → n ≤ 4 → List (View.Piece (Elt F) S128x256 .f32)
  | 0, _ => L
  | n + 1, h => accPiece (v.view.readCov (accOver v L t n (by omega)) (ltBox ⟨n, h⟩).toLoadRect) (t ⟨n, h⟩) ⟨n, h⟩ ::
      accOver v L t n (by omega)

def dlSum (I : Ins F) (j : Fin 4) : FVec F S32x256 .f32 := sumTo (fun c => dl I c j) 7
def drSum (I : Ins F) (j : Fin 4) : FVec F S32x256 .f32 := sumTo (fun c => dr I c j) 7

/-! ### The two weight gradients written out at the last point -/

def dlOutLd (v : Memref sig .tc .vmem S128x256 .f32) (L : List (View.Piece (Elt F) S128x256 .f32)) (q : Fin 8) :
    Vec F S16x128 .f32 :=
  v.view.readCov L (Rect.unit (s := S128x256) ![q.val * 16, (q.val % 2) * 128] S16x128.size
    (inb2 (by omega) (by omega))).toLoadRect

/-- The block of digit `q` of the accumulated gradient of `l`. -/
def dlOut (v : Memref sig .tc .vmem S128x256 .f32) (L : List (View.Piece (Elt F) S128x256 .f32)) (q : Fin 8) :
    View.Piece (Elt F) S8x16x128 .f32 :=
  ⟨Rect.unit ![q.val, 0, 0] S1x16x128.size (inb3 (by omega) (by omega) (by omega)),
    shapeCast S1x16x128 (dlOutLd v L q) shapeCasts_S16x128_S1x16x128⟩

def dlOuts (v : Memref sig .tc .vmem S128x256 .f32) (L : List (View.Piece (Elt F) S128x256 .f32)) :
    List (View.Piece (Elt F) S8x16x128 .f32) :=
  [dlOut v L 7, dlOut v L 6, dlOut v L 5, dlOut v L 4, dlOut v L 3, dlOut v L 2, dlOut v L 1, dlOut v L 0]

def drOutLd (v : Memref sig .tc .vmem S128x256 .f32) (L : List (View.Piece (Elt F) S128x256 .f32)) (k : Fin 16) :
    Vec F S8x64 .f32 :=
  v.view.readCov L (Rect.unit (s := S128x256) ![k.val * 8, (k.val % 4) * 64] S8x64.size
    (inb2 (by omega) (by omega))).toLoadRect

/-- The block of head `k` of the accumulated gradient of `r`. -/
def drOut (v : Memref sig .tc .vmem S128x256 .f32) (L : List (View.Piece (Elt F) S128x256 .f32)) (k : Fin 16) :
    View.Piece (Elt F) S16x8x64 .f32 :=
  ⟨Rect.unit ![k.val, 0, 0] S1x8x64.size (inb3 (by omega) (by omega) (by omega)),
    shapeCast S1x8x64 (drOutLd v L k) shapeCasts_S8x64_S1x8x64⟩

def drOuts (v : Memref sig .tc .vmem S128x256 .f32) (L : List (View.Piece (Elt F) S128x256 .f32)) :
    List (View.Piece (Elt F) S16x8x64 .f32) :=
  [drOut v L 15, drOut v L 14, drOut v L 13, drOut v L 12, drOut v L 11, drOut v L 10, drOut v L 9, drOut v L 8,
   drOut v L 7, drOut v L 6, drOut v L 5, drOut v L 4, drOut v L 3, drOut v L 2, drOut v L 1, drOut v L 0]

end Cert.KernelIdeal.Model

end
-- ==== Proof.Boxes.lean ====
/-
  Which element of a buffer each box of the body names, and how the token-scale box is found from the grid point.
-/
module

public import proofs.«01_k».proof.Proof.Model
public import Idealize.ShloMosaic.Lib.Pipeline.ValueKit
public import Idealize.ShloMosaic.Lib.Pipeline.CanonAppend

@[expose] public section

set_option maxRecDepth 16384

noncomputable section

namespace Cert.KernelIdeal.Model

open Idealize.ShloMosaic Idealize.SL.Sem Idealize.ShloMosaic.TcCoe Cert.KernelIdeal.Gen

/-- Indices of rank two are equal when their coordinates are. -/
theorem idx2_ext {n0 n1 : ℕ} {x : (⟨2, ![n0, n1]⟩ : Shape).Idx} {a : Fin n0} {b : Fin n1}
    (h0 : (x 0).val = a.val) (h1 : (x 1).val = b.val) : x = ix2 a b := by
  funext i; fin_cases i
  · exact Fin.ext h0
  · exact Fin.ext h1

theorem idx3_ext {n0 n1 n2 : ℕ} {x : (⟨3, ![n0, n1, n2]⟩ : Shape).Idx} {a : Fin n0} {b : Fin n1} {c : Fin n2}
    (h0 : (x 0).val = a.val) (h1 : (x 1).val = b.val) (h2 : (x 2).val = c.val) : x = ix3 a b c := by
  funext i; fin_cases i
  · exact Fin.ext h0
  · exact Fin.ext h1
  · exact Fin.ext h2

theorem idx4_ext {n0 n1 n2 n3 : ℕ} {x : (⟨4, ![n0, n1, n2, n3]⟩ : Shape).Idx} {a : Fin n0} {b : Fin n1} {c : Fin n2} {d : Fin n3}
    (h0 : (x 0).val = a.val) (h1 : (x 1).val = b.val) (h2 : (x 2).val = c.val) (h3 : (x 3).val = d.val) : x = ix4 a b c d := by
  funext i; fin_cases i
  · exact Fin.ext h0
  · exact Fin.ext h1
  · exact Fin.ext h2
  · exact Fin.ext h3

/-- Token `t` of chunk `c`. -/
def tok (c : ℕ) (t : Fin 256) : Fin 2048 := ⟨c % 8 * 256 + t.val, by omega⟩

/-- Lane `n` of tile `j`. -/
def lane (j : Fin 4) (n : Fin 256) : Fin 1024 := ⟨j.val * 256 + n.val, by omega⟩

/-- Row `r` of tile `j`. -/
def row (j : Fin 4) (r : Fin 32) : Fin 128 := ⟨j.val * 32 + r.val, by omega⟩

theorem idx_tokBox (c : ℕ) (j : Fin 4) (t n : Fin 256) :
    (tokBox c j).toLoadRect.idx (ix3 0 t n) = ix3 0 (tok c t) (lane j n) := by
  refine idx3_ext ?_ ?_ ?_ <;> simp [tok, lane, Rect.unit]

theorem emb_tokBox (c : ℕ) (j : Fin 4) (t n : Fin 256) :
    (tokBox c j).emb (ix3 0 t n) = ix3 0 (tok c t) (lane j n) := idx_tokBox c j t n

theorem idx_hBox (c : ℕ) (k : Fin 16) (q : Fin 8) (t : Fin 256) :
    (hBox c).toLoadRect.idx (ix4 0 k q t) = ix4 0 k q (tok c t) := by
  refine idx4_ext ?_ ?_ ?_ ?_ <;> simp [tok, Rect.unit]

theorem idx_dypTile (c : ℕ) (j : Fin 4) (m t : Fin 256) :
    (dypTile c j).toLoadRect.idx (ix2 m t) = ix2 (lane j m) (tok c t) := by
  refine idx2_ext ?_ ?_ <;> simp [tok, lane, Rect.unit]

theorem emb_dypBox (c : ℕ) (i : Fin 4) (q : Fin 8) (r : Fin 32) (t : Fin 256) :
    (dypBox c i q).toLoadRect.idx (ix2 r t) = ix2 ⟨q.val * 128 + i.val * 32 + r.val, by omega⟩ (tok c t) := by
  refine idx2_ext ?_ ?_ <;> simp [tok, Rect.unit]

theorem idx_rowBox (v : Fin 2) (q : Fin 8) (k : Fin 16) (t : Fin 128) :
    (rowBox v q).toLoadRect.idx (ix3 0 k t) = ix3 v ⟨k.val * 8 + q.val, by omega⟩ t := by
  refine idx3_ext ?_ ?_ ?_ <;> simp
  omega

theorem idx_halfBox (v : Fin 2) (r t : Fin 128) :
    (halfBox v).toLoadRect.idx (ix3 0 r t) = ix3 v r t := by
  refine idx3_ext ?_ ?_ ?_ <;> simp [Rect.unit]

theorem idx_ltBox (j : Fin 4) (r : Fin 32) (m : Fin 256) :
    (ltBox j).toLoadRect.idx (ix2 r m) = ix2 (row j r) m := by
  refine idx2_ext ?_ ?_ <;> simp [row, Rect.unit]

theorem idx_lscBox (j : Fin 4) (r : Fin 32) :
    (lscBox j).toLoadRect.idx (ix2 r 0) = ix2 (row j r) 0 := by
  refine idx2_ext ?_ ?_ <;> simp [row, Rect.unit]

theorem idx_rbBox (j : Fin 4) (r : Fin 128) (n : Fin 256) :
    (rbBox j).toLoadRect.idx (ix2 r n) = ix2 r (lane j n) := by
  refine idx2_ext ?_ ?_ <;> simp [lane, Rect.unit]

theorem idx_rsrBox (j : Fin 4) (n : Fin 256) :
    (rsrBox j).toLoadRect.idx (ix2 0 n) = ix2 0 (lane j n) := by
  refine idx2_ext ?_ ?_ <;> simp [lane, Rect.unit]

/-- The box of token scales lies in row `b % 8`, at the chunk's tokens. -/
theorem off1_eq (i : grid0.Coords) (r : Fin 8) :
    k0_off1 i (BitVec.ofNat 32 (256 * r.val)) = ![(i 0).val % 8, r.val * 256] := by
  have key : ∀ (a : Fin 32) (z : Fin 1) (r : Fin 8),
      k0_off1 (fun x => match x with | 0 => a | 1 => z) (BitVec.ofNat 32 (256 * r.val)) = ![a.val % 8, r.val * 256] := by
    decide +kernel
  exact key (i 0) (i 1) r

theorem idx_scBox (i : grid0.Coords) (c : ℕ) (t : Fin 256) :
    (scBox i c).toLoadRect.idx (ix2 0 t) = ix2 ⟨(i 0).val % 8, Nat.mod_lt _ (by decide)⟩ (tok c t) := by
  have h := off1_eq i ⟨c % 8, Nat.mod_lt _ (by decide)⟩
  refine idx2_ext ?_ ?_
  · simp only [LoadRect.idx_apply]
    show k0_off1 i (BitVec.ofNat 32 (256 * (c % 8))) 0 + 1 * 0 = _
    exact (congrFun h 0)
  · simp only [LoadRect.idx_apply]
    show k0_off1 i (BitVec.ofNat 32 (256 * (c % 8))) 1 + 1 * t.val = _
    have h1 : k0_off1 i (BitVec.ofNat 32 (256 * (c % 8))) 1 = c % 8 * 256 := congrFun h 1
    rw [h1]; simp [tok]

/-- Stores that are blocks of `G`, over any earlier stores, leave `G` where one of them lies. -/
theorem canon_at {s : Shape} {e : EltTy} (G : s.Idx → Elt Ideal e) (L' L : List (View.Piece (Elt Ideal) s e))
    (hL : ∀ p ∈ L, ∀ x : p.1.shape.Idx, p.2 x = G (p.1.emb x)) (p : View.Piece (Elt Ideal) s e) (hp : p ∈ L)
    (x : p.1.shape.Idx) (y : s.Idx) (hy : p.1.emb x = y) : View.canon (L ++ L') y = G y := by
  subst hy
  exact View.canon_append_of_pieces G L' L hL _ ⟨p, hp, p.1.toLoadRect.idx_mem x⟩

end Cert.KernelIdeal.Model

end
-- ==== Proof.Pay.lean ====
/-
  The body's arithmetic read at an index, over the extended reals: each payload of the body at one element, as sums and
  products of what it was given.
-/
module

public import proofs.«01_k».proof.Proof.Model
public import Idealize.ShloMosaic.Lib.Pipeline.ValueKit

@[expose] public section

set_option maxRecDepth 16384

noncomputable section

namespace Cert.KernelIdeal.Model

open Idealize.ShloMosaic Idealize.SL.Sem Idealize.ShloMosaic.TcCoe Cert.KernelIdeal.Gen

/-- The permutation times a tile of `dy`: both transposed on the right. -/
theorem pay146_apply (P : Vec Ideal S256x256 .fp8e4m3) (D : Vec Ideal S1x256x256 .fp8e5m2) (r t : Fin 256) :
    k0_pay146 (F := Ideal) P D (ix2 r t) = ∑ n : Fin 256, P (ix2 r n) * D (ix3 0 t n) := by
  pointwise [k0_pay146]

/-- A tile of `dh`: the spread weights times permuted `dy`, by the token's scale and the row's. -/
theorem pay113_apply (s : Vec Ideal S1x256 .f32) (L : Vec Ideal S32x256 .fp8e4m3) (D : Vec Ideal S256x256 .fp8e5m2)
    (w : Vec Ideal S32x1 .f32) (r : Fin 32) (t : Fin 256) :
    k0_pay113 (F := Ideal) s L D w (ix2 r t) = (∑ m : Fin 256, L (ix2 r m) * D (ix2 m t)) * s (ix2 0 t) * w (ix2 r 0) := by
  pointwise [k0_pay113]

/-- A cast through bf16 is the identity. -/
theorem pay143_apply (v : Vec Ideal S1x256 .f32) (t : Fin 256) : k0_pay143 (F := Ideal) v (ix2 0 t) = v (ix2 0 t) := by
  pointwise [k0_pay143]

/-- The two halves of a chunk side by side. -/
def sideBySide (A B : Vec Ideal S1x128x128 .f32) (r : Fin 128) (t : Fin 256) : EReal :=
  if h : t.val < 128 then A (ix3 0 r ⟨t.val, h⟩) else B (ix3 0 r ⟨t.val - 128, by omega⟩)

theorem pay123_apply (A B : Vec Ideal S1x128x128 .f32) (r : Fin 128) (t : Fin 256) :
    k0_pay123 (F := Ideal) A B (ix2 r t) = sideBySide A B r t := by
  pointwise [k0_pay123]
  rfl

theorem pay125_apply (A B : Vec Ideal S1x128x128 .f32) (k : Fin 16) (q : Fin 8) (t : Fin 256) :
    k0_pay125 (F := Ideal) A B (ix4 0 k q t) = sideBySide A B ⟨k.val * 8 + q.val, by omega⟩ t := by
  pointwise [k0_pay125, k0_pay124]
  exact pay123_apply A B _ t

theorem pay126_apply (s : Vec Ideal S1x256 .f32) (A B : Vec Ideal S1x128x128 .f32) (r : Fin 128) (t : Fin 256) :
    k0_pay126 (F := Ideal) s A B (ix2 r t) = sideBySide A B r t * s (ix2 0 t) := by
  pointwise [k0_pay126, k0_pay124]
  rw [pay123_apply]

theorem pay127_apply (A B : Vec Ideal S1x128x128 .f32) (r : Fin 128) (t : Fin 256) :
    k0_pay127 (F := Ideal) A B (ix2 t r) = sideBySide A B r t := by
  pointwise [k0_pay127]
  exact pay123_apply A B r t

theorem pay130_apply (H : FVec Ideal S256x128 .bf16) (W : Vec Ideal S128x256 .bf16) (s : Vec Ideal S1x256 .f32) (t n : Fin 256) :
    k0_pay130 (F := Ideal) H W s (ix3 0 t n) = (∑ m : Fin 128, H (ix2 t m) * W (ix2 m n)) * s (ix2 0 n) := by
  pointwise [k0_pay130]

theorem pay98_apply (a b : FVec Ideal S1x256 .f32) (h : Vec Ideal S1x16x8x256 .fp8e4m3) (r : Fin 128) (t : Fin 256) :
    k0_pay98 (F := Ideal) a b h (ix2 r t) = h (ix4 0 ⟨r.val / 8, by omega⟩ ⟨r.val % 8, by omega⟩ t) * b (ix2 0 t) * a (ix2 0 t) := by
  pointwise [k0_pay98]

theorem pay99_apply (a b : FVec Ideal S1x256 .f32) (h : Vec Ideal S1x16x8x256 .fp8e4m3) (r : Fin 128) (t : Fin 128) :
    k0_pay99 (F := Ideal) a b h (ix3 0 r t) = k0_pay98 (F := Ideal) a b h (ix2 r ⟨t.val, by omega⟩) := by
  pointwise [k0_pay99]
theorem pay100_apply (a b : FVec Ideal S1x256 .f32) (h : Vec Ideal S1x16x8x256 .fp8e4m3) (r : Fin 128) (t : Fin 128) :
    k0_pay100 (F := Ideal) a b h (ix3 0 r t) = k0_pay98 (F := Ideal) a b h (ix2 r ⟨128 + t.val, by omega⟩) := by
  pointwise [k0_pay100]

/-- Two halves of 16 rows side by side. -/
def sideBySide16 (A B : Vec Ideal S1x16x128 .f32) (r : Fin 16) (t : Fin 256) : EReal :=
  if h : t.val < 128 then A (ix3 0 r ⟨t.val, h⟩) else B (ix3 0 r ⟨t.val - 128, by omega⟩)

theorem pay128_apply (A B C D : Vec Ideal S1x16x128 .f32) (Y : Vec Ideal S256x256 .fp8e5m2) (r : Fin 32) (m : Fin 256) :
    k0_pay128 (F := Ideal) A B C D Y (ix2 r m) = ∑ t : Fin 256, (if h : r.val < 16 then sideBySide16 A B ⟨r.val, h⟩ t
      else sideBySide16 C D ⟨r.val - 16, by omega⟩ t) * Y (ix2 m t) := by
  pointwise [k0_pay128]
  refine Eq.trans ?_ (Fin.sum_univ_add (a := 128) (b := 128) _).symm
  congr 1

end Cert.KernelIdeal.Model

end
-- ==== Proof.Math.lean ====
/-
  What one grid point computes, over the extended reals, from the blocks it reads: `dh`, the scaled `h`, and each chunk's part of
  `dx` and of the two weight gradients, as plain sums.
-/
module

public import proofs.«01_k».proof.Proof.Boxes
public import proofs.«01_k».proof.Proof.Pay

@[expose] public section

set_option maxRecDepth 16384

noncomputable section

namespace Cert.KernelIdeal.Model

open Idealize.ShloMosaic Idealize.SL.Sem Idealize.ShloMosaic.TcCoe Cert.KernelIdeal.Gen

/-- The blocks that one grid point reads. -/
structure Vals where
  /-- the row of the scales -/
  b : Fin 8
  dy : Vec Ideal S1x2048x1024 .fp8e5m2
  dys : Vec Ideal S8x2048 .f32
  x : Vec Ideal S1x2048x1024 .fp8e4m3
  xs : Vec Ideal S8x2048 .f32
  h : Vec Ideal S1x16x8x2048 .fp8e4m3
  hs : Vec Ideal S8x2048 .f32
  r : Vec Ideal S16x8x64 .fp8e4m3
  rs : Vec Ideal S16 .f32
  l : Vec Ideal S8x16x128 .fp8e4m3
  ls : Vec Ideal S8 .f32

/-! ### The prepared weights -/

/-- The permutation: row `q * 32 + s` picks column `s * 8 + q`. -/
def permW : Vec Ideal S256x256 .fp8e4m3 := fun y =>
  if (y 1).val = (y 0).val % 32 * 8 + (y 0).val / 32 then (1 : EReal) else 0

/-- `l` in the half of its digit's parity, zero in the other. -/
def ltW (V : Vals) : Vec Ideal S128x256 .fp8e4m3 := fun y =>
  if (y 0).val / 16 % 2 = (y 1).val / 128 then
    V.l (ix3 ⟨(y 0).val / 16, Nat.div_lt_of_lt_mul (y 0).isLt⟩ ⟨(y 0).val % 16, Nat.mod_lt _ (by decide)⟩
      ⟨(y 1).val % 128, Nat.mod_lt _ (by decide)⟩)
  else (0 : EReal)

/-- `r` in the lanes of its head, zero in the others. -/
def rbW (V : Vals) : Vec Ideal S128x1024 .bf16 := fun y =>
  if (y 0).val / 8 = (y 1).val / 64 then
    V.r (ix3 ⟨(y 0).val / 8, Nat.div_lt_of_lt_mul (y 0).isLt⟩ ⟨(y 0).val % 8, Nat.mod_lt _ (by decide)⟩
      ⟨(y 1).val % 64, Nat.mod_lt _ (by decide)⟩)
  else (0 : EReal)

/-- The scale of `l` down the rows. -/
def lscW (V : Vals) : Vec Ideal S128x128 .f32 := fun y => V.ls (ix1 ⟨(y 0).val / 16, Nat.div_lt_of_lt_mul (y 0).isLt⟩)

/-- The scale of `r` along the lanes. -/
def rsrW (V : Vals) : Vec Ideal S8x1024 .f32 := fun y => V.rs (ix1 ⟨(y 1).val / 64, Nat.div_lt_of_lt_mul (y 1).isLt⟩)

/-- The loads of `I` read the blocks `V`. -/
structure Reads (I : Ins Ideal) (V : Vals) : Prop where
  row : V.b.val = (I.i 0).val % 8
  dy : ∀ B y, I.dy B y = V.dy (B.idx y)
  dys : ∀ B y, I.dys B y = V.dys (B.idx y)
  x : ∀ B y, I.x B y = V.x (B.idx y)
  xs : ∀ B y, I.xs B y = V.xs (B.idx y)
  h : ∀ B y, I.h B y = V.h (B.idx y)
  hs : ∀ B y, I.hs B y = V.hs (B.idx y)
  perm : ∀ B y, I.perm B y = permW (B.idx y)
  lt : ∀ B y, I.lt B y = ltW V (B.idx y)
  rb : ∀ B y, I.rb B y = rbW V (B.idx y)
  lsc : ∀ B y, I.lsc B y = lscW V (B.idx y)
  rsr : ∀ B y, I.rsr B y = rsrW V (B.idx y)

/-! ### The mathematics -/

/-- Element `s` of digit `q` of `dy` at a token. -/
def Vals.dyE (V : Vals) (q : Fin 8) (s : Fin 128) (t : Fin 2048) : EReal := V.dy (ix3 0 t ⟨s.val * 8 + q.val, by omega⟩)

/-- `dh` at head `k`, digit `q` and a token. -/
def Vals.dh (V : Vals) (k : Fin 16) (q : Fin 8) (t : Fin 2048) : EReal :=
  (∑ s : Fin 128, V.l (ix3 q k s) * V.dyE q s t) * V.dys (ix2 V.b t) * V.ls (ix1 q)

/-- `h` scaled by its own scale and by that of `dy`. -/
def Vals.hsc (V : Vals) (k : Fin 16) (q : Fin 8) (t : Fin 2048) : EReal :=
  V.h (ix4 0 k q t) * V.hs (ix2 V.b t) * V.dys (ix2 V.b t)

/-- `dy` with its lanes permuted: row `q * 128 + s` is element `s` of digit `q`. -/
def Vals.dyp (V : Vals) : Vec Ideal S1024x2048 .fp8e5m2 := fun y =>
  V.dyE ⟨(y 0).val / 128, Nat.div_lt_of_lt_mul (y 0).isLt⟩ ⟨(y 0).val % 128, Nat.mod_lt _ (by decide)⟩ (y 1)

/-- A sum over 256 lanes of which one half counts. -/
theorem sum_half (h : ℕ) (hh : h < 2) (f : Fin 256 → EReal) :
    (∑ m : Fin 256, if h = m.val / 128 then f m else 0) = ∑ s : Fin 128, f ⟨h * 128 + s.val, by omega⟩ := by
  rw [← Fin.sum_mul_add_fin 2 128 (fun m : Fin 256 => if h = m.val / 128 then f m else 0)]
  rw [Finset.sum_eq_single (⟨h, hh⟩ : Fin 2)]
  · refine Finset.sum_congr rfl fun s _ => if_pos ?_
    show h = (h * 128 + s.val) / 128
    omega
  · intro a _ ha
    refine Finset.sum_eq_zero fun s _ => if_neg ?_
    show ¬ h = (a.val * 128 + s.val) / 128
    intro e; exact ha (Fin.ext (by show a.val = h; omega))
  · intro h'; exact absurd (Finset.mem_univ _) h'

section
variable {I : Ins Ideal} {V : Vals} (R : Reads I V)
include R

theorem dys_apply (c : ℕ) (t : Fin 256) : dyS I c (ix2 0 t) = V.dys (ix2 V.b (tok c t)) := by
  rw [show V.b = ⟨(I.i 0).val % 8, Nat.mod_lt _ (by decide)⟩ from Fin.ext R.row]
  exact (R.dys _ _).trans (congrArg V.dys (idx_scBox I.i c t))

theorem dys16_apply (c : ℕ) (t : Fin 256) : dyS16 I c (ix2 0 t) = V.dys (ix2 V.b (tok c t)) :=
  (pay143_apply _ t).trans (dys_apply R c t)

theorem xs16_apply (c : ℕ) (t : Fin 256) : xS16 I c (ix2 0 t) = V.xs (ix2 V.b (tok c t)) := by
  rw [show V.b = ⟨(I.i 0).val % 8, Nat.mod_lt _ (by decide)⟩ from Fin.ext R.row]
  exact (pay143_apply _ t).trans ((R.xs _ _).trans (congrArg V.xs (idx_scBox I.i c t)))

theorem hs16_apply (c : ℕ) (t : Fin 256) : hS16 I c (ix2 0 t) = V.hs (ix2 V.b (tok c t)) := by
  rw [show V.b = ⟨(I.i 0).val % 8, Nat.mod_lt _ (by decide)⟩ from Fin.ext R.row]
  exact (pay143_apply _ t).trans ((R.hs _ _).trans (congrArg V.hs (idx_scBox I.i c t)))

/-- The permutation times a tile of `dy`, at an element. -/
theorem dypProd_apply (c : ℕ) (i : Fin 4) (r t : Fin 256) :
    dypProd I c i (ix2 r t) = V.dy (ix3 0 (tok c t) ⟨i.val * 256 + (r.val % 32 * 8 + r.val / 32), by omega⟩) := by
  unfold dypProd
  rw [pay146_apply]
  have h : ∀ n : Fin 256, I.perm (Rect.unit ![0, 0] S256x256.size inb_S256x256_S256x256_0_0).toLoadRect (ix2 r n) *
      I.dy (tokBox c i).toLoadRect (ix3 0 t n) =
      if n = (⟨r.val % 32 * 8 + r.val / 32, by omega⟩ : Fin 256) then V.dy (ix3 0 (tok c t) (lane i n)) else 0 := by
    intro n
    rw [R.dy, idx_tokBox, R.perm]
    have e : (Rect.unit (s := S256x256) ![0, 0] S256x256.size inb_S256x256_S256x256_0_0).toLoadRect.idx (ix2 r n) = ix2 r n := by
      refine idx2_ext ?_ ?_ <;> simp [Rect.unit]
    rw [e]
    show (if n.val = r.val % 32 * 8 + r.val / 32 then (1 : EReal) else 0) * _ = _
    by_cases hn : n.val = r.val % 32 * 8 + r.val / 32
    · rw [if_pos hn, if_pos (Fin.ext hn)]; exact one_mul _
    · rw [if_neg hn, if_neg (fun e => hn (congrArg Fin.val e))]; exact zero_mul _
  rw [Finset.sum_congr rfl fun n _ => h n, Finset.sum_ite_eq' Finset.univ, if_pos (Finset.mem_univ _)]
  rfl

/-- Each store into the permuted `dy` is a block of it. -/
theorem dypPiece_block (c : ℕ) (i : Fin 4) (q : Fin 8) (x : (dypPiece I c i q).1.shape.Idx) :
    (dypPiece I c i q).2 x = V.dyp ((dypPiece I c i q).1.emb x) := by
  obtain ⟨r, t, rfl⟩ : ∃ (r : Fin 32) (t : Fin 256), x = ix2 r t := ⟨x 0, x 1, idx2_ext rfl rfl⟩
  have e : (dypPiece I c i q).1.emb (ix2 r t) = ix2 ⟨q.val * 128 + i.val * 32 + r.val, by omega⟩ (tok c t) := emb_dypBox c i q r t
  rw [e]
  have h2 : (dypPiece I c i q).2 (ix2 r t) = dypProd I c i (ix2 ⟨q.val * 32 + r.val, by omega⟩ t) := by
    show shapeCast S32x256 (extractStridedSlice S32x256 ![q.val * 32, 0] (dypProd I c i) (slQ q)) shapeCasts_S32x256_S32x256 (ix2 r t) = _
    generalize dypProd I c i = W
    pointwise []
  rw [h2, dypProd_apply R]
  show V.dy _ = V.dy _
  congr 1
  refine idx3_ext rfl rfl ?_
  show i.val * 256 + ((q.val * 32 + r.val) % 32 * 8 + (q.val * 32 + r.val) / 32) =
    (q.val * 128 + i.val * 32 + r.val) % 128 * 8 + (q.val * 128 + i.val * 32 + r.val) / 128
  omega

/-- All stores into the permuted `dy` are blocks of it. -/
theorem dyp_blocks (n : ℕ) : ∀ p ∈ dyp I n, ∀ x : p.1.shape.Idx, p.2 x = V.dyp (p.1.emb x) := by
  induction n with
  | zero => intro p hp; simp [dyp] at hp
  | succ n ih =>
    intro p hp
    simp only [dyp, dypTilePieces, List.mem_cons] at hp
    rcases hp with h|h|h|h|h|h|h|h|h|h|h|h|h|h|h|h|h|h|h|h|h|h|h|h|h|h|h|h|h|h|h|h|h
    all_goals first | (subst h; exact dypPiece_block R _ _ _) | exact ih p h

omit R in
theorem dypPiece_mem (c : ℕ) (i : Fin 4) (q : Fin 8) : dypPiece I c i q ∈ dyp I (c + 1) := by
  fin_cases i <;> fin_cases q <;> simp [dyp, dypTilePieces]

/-- A tile of the permuted `dy`, loaded back. -/
theorem dypLd_apply (c : ℕ) (j : Fin 4) (m t : Fin 256) :
    dypLd I c j (ix2 m t) = V.dyE ⟨j.val * 2 + m.val / 128, by omega⟩ ⟨m.val % 128, Nat.mod_lt _ (by decide)⟩ (tok c t) := by
  unfold dypLd
  rw [View.readCov_eq_canon']
  show View.canon (dyp I (c + 1)) ((dypTile c j).toLoadRect.idx (ix2 m t)) = _
  rw [idx_dypTile, ← List.append_nil (dyp I (c + 1))]
  refine (canon_at V.dyp [] (dyp I (c + 1)) (dyp_blocks R _) _
      (dypPiece_mem c ⟨(lane j m).val % 128 / 32, by omega⟩ ⟨(lane j m).val / 128, by have := (lane j m).isLt; omega⟩)
      (ix2 ⟨(lane j m).val % 32, Nat.mod_lt _ (by decide)⟩ t) (ix2 (lane j m) (tok c t))
      ((emb_dypBox c _ _ _ t).trans (idx2_ext ?_ rfl))).trans ?_
  · show (lane j m).val / 128 * 128 + (lane j m).val % 128 / 32 * 32 + (lane j m).val % 32 = (lane j m).val
    omega
  show V.dyE _ _ _ = V.dyE _ _ _
  congr 1
  · refine Fin.ext ?_
    show (j.val * 256 + m.val) / 128 = j.val * 2 + m.val / 128
    omega
  · refine Fin.ext ?_
    show (j.val * 256 + m.val) % 128 = m.val % 128
    omega

/-- A tile of `dh`: row `r` is head `r % 16` of digit `2 j + r / 16`. -/
theorem acc_apply (c : ℕ) (j : Fin 4) (r : Fin 32) (t : Fin 256) :
    acc I c j (ix2 r t) = V.dh ⟨r.val % 16, Nat.mod_lt _ (by decide)⟩ ⟨j.val * 2 + r.val / 16, by omega⟩ (tok c t) := by
  unfold acc
  rw [pay113_apply, dys_apply R, R.lsc, idx_lscBox]
  have hq : (j.val * 32 + r.val) / 16 = j.val * 2 + r.val / 16 := by omega
  have hk : (j.val * 32 + r.val) % 16 = r.val % 16 := by omega
  have hls : lscW V (ix2 (row j r) 0) = V.ls (ix1 ⟨j.val * 2 + r.val / 16, by omega⟩) := by
    show V.ls (ix1 _) = _
    congr 2
    exact Fin.ext hq
  have hs : (∑ m : Fin 256, I.lt (ltBox j).toLoadRect (ix2 r m) * dypLd I c j (ix2 m t)) =
      ∑ m : Fin 256, if r.val / 16 = m.val / 128 then
        V.l (ix3 ⟨j.val * 2 + r.val / 16, by omega⟩ ⟨r.val % 16, Nat.mod_lt _ (by decide)⟩ ⟨m.val % 128, Nat.mod_lt _ (by decide)⟩) *
        V.dyE ⟨j.val * 2 + m.val / 128, by omega⟩ ⟨m.val % 128, Nat.mod_lt _ (by decide)⟩ (tok c t) else 0 := by
    refine Finset.sum_congr rfl fun m _ => ?_
    rw [dypLd_apply R, R.lt, idx_ltBox]
    show (if (j.val * 32 + r.val) / 16 % 2 = m.val / 128 then V.l (ix3 _ _ _) else (0 : EReal)) * _ = _
    by_cases h : r.val / 16 = m.val / 128
    · rw [if_pos h, if_pos (by omega)]
      congr 3
      · exact Fin.ext hq
      · exact Fin.ext hk
    · rw [if_neg h, if_neg (by omega), zero_mul]
  rw [hs, sum_half _ (by omega), hls]
  unfold Vals.dh
  congr 2
  refine Finset.sum_congr rfl fun s _ => ?_
  have e1 : (r.val / 16 * 128 + s.val) % 128 = s.val := by omega
  have e2 : j.val * 2 + (r.val / 16 * 128 + s.val) / 128 = j.val * 2 + r.val / 16 := by omega
  congr 2
  · congr 1; exact Fin.ext e1
  · exact Fin.ext e2
  · exact Fin.ext e1

end

end Cert.KernelIdeal.Model

end
-- ==== Proof.Math2.lean ====
/-
  What one grid point stores, over the extended reals: its blocks of `dh` and `dx`, and its part of the two weight gradients.
-/
module

public import proofs.«01_k».proof.Proof.Math

@[expose] public section

set_option maxRecDepth 16384

noncomputable section

namespace Cert.KernelIdeal.Model

open Idealize.ShloMosaic Idealize.SL.Sem Idealize.ShloMosaic.TcCoe Cert.KernelIdeal.Gen

/-- Token `t` of half `v` of a chunk. -/
def half (v : Fin 2) (t : Fin 128) : Fin 256 := ⟨v.val * 128 + t.val, by omega⟩

/-- `dh` over a chunk, as the scratch holds it: row `k * 8 + q`, in two halves. -/
def Vals.dhq (V : Vals) (c : ℕ) : Vec Ideal S2x128x128 .f32 := fun y =>
  V.dh ⟨(y 1).val / 8, Nat.div_lt_of_lt_mul (y 1).isLt⟩ ⟨(y 1).val % 8, Nat.mod_lt _ (by decide)⟩ (tok c (half (y 0) (y 2)))

/-- The scaled `h` over a chunk, as the scratch holds it. -/
def Vals.hq (V : Vals) (c : ℕ) : Vec Ideal S2x128x128 .f32 := fun y =>
  V.hsc ⟨(y 1).val / 8, Nat.div_lt_of_lt_mul (y 1).isLt⟩ ⟨(y 1).val % 8, Nat.mod_lt _ (by decide)⟩ (tok c (half (y 0) (y 2)))

/-- Row `r` of `dh` at a token. -/
def Vals.dhRow (V : Vals) (r : Fin 128) (t : Fin 2048) : EReal :=
  V.dh ⟨r.val / 8, by omega⟩ ⟨r.val % 8, Nat.mod_lt _ (by decide)⟩ t

section
variable {I : Ins Ideal} {V : Vals} (R : Reads I V)
include R

theorem dhqPiece_block (c : ℕ) (j : Fin 4) (h v : Fin 2) (x : (dhqPiece I c j h v).1.shape.Idx) :
    (dhqPiece I c j h v).2 x = V.dhq c ((dhqPiece I c j h v).1.emb x) := by
  obtain ⟨k, t, rfl⟩ : ∃ (k : Fin 16) (t : Fin 128), x = ix3 0 k t :=
    ⟨x 1, x 2, idx3_ext (by have h := (x 0).isLt; change (x 0).val < 1 at h; show (x 0).val = 0; omega) rfl rfl⟩
  have e : (dhqPiece I c j h v).1.emb (ix3 0 k t) = ix3 v ⟨k.val * 8 + (j.val * 2 + h.val), by omega⟩ t :=
    idx_rowBox v ⟨j.val * 2 + h.val, by omega⟩ k t
  rw [e]
  have h2 : (dhqPiece I c j h v).2 (ix3 0 k t) = acc I c j (ix2 ⟨h.val * 16 + k.val, by omega⟩ (half v t)) := by
    show shapeCast S1x16x128 (extractStridedSlice S16x128 ![h.val * 16, v.val * 128] (acc I c j) (slHV h v))
      shapeCasts_S16x128_S1x16x128 (ix3 0 k t) = _
    generalize acc I c j = W
    pointwise []
    rfl
  rw [h2, acc_apply R]
  show V.dh _ _ _ = V.dh _ _ _
  congr 1
  · refine Fin.ext ?_
    show (h.val * 16 + k.val) % 16 = (k.val * 8 + (j.val * 2 + h.val)) / 8
    rw [Nat.mul_comm k.val 8, Nat.mul_add_div (by decide), Nat.div_eq_of_lt (by omega : j.val * 2 + h.val < 8)]
    omega
  · refine Fin.ext ?_
    show j.val * 2 + (h.val * 16 + k.val) / 16 = (k.val * 8 + (j.val * 2 + h.val)) % 8
    rw [Nat.mul_comm k.val 8, Nat.mul_add_mod, Nat.mod_eq_of_lt (by omega : j.val * 2 + h.val < 8)]
    omega

/-- The stores of one chunk of `dh` alone. -/
def dhqChunk (I : Ins Ideal) (c : ℕ) : List (View.Piece (Elt Ideal) S2x128x128 .f32) :=
  dhqTilePieces I c 3 (dhqTilePieces I c 2 (dhqTilePieces I c 1 (dhqTilePieces I c 0 [])))

omit R in
theorem dhqPiece_mem (c : ℕ) (j : Fin 4) (h v : Fin 2) : dhqPiece I c j h v ∈ dhqChunk I c := by
  fin_cases j <;> fin_cases h <;> fin_cases v <;> simp [dhqChunk, dhqTilePieces]

theorem dhqChunk_blocks (c : ℕ) : ∀ p ∈ dhqChunk I c, ∀ x : p.1.shape.Idx, p.2 x = V.dhq c (p.1.emb x) := by
  intro p hp
  simp only [dhqChunk, dhqTilePieces, List.mem_cons, List.not_mem_nil, or_false] at hp
  rcases hp with h|h|h|h|h|h|h|h|h|h|h|h|h|h|h|h
  all_goals (subst h; exact dhqPiece_block R _ _ _ _)

/-- A half of a chunk of `dh`, loaded back. -/
theorem dhLd_apply (c : ℕ) (v : Fin 2) (r t : Fin 128) : dhLd I c v (ix3 0 r t) = V.dhRow r (tok c (half v t)) := by
  unfold dhLd
  rw [View.readCov_eq_canon']
  show View.canon (dhqChunk I c ++ dhq I c) ((halfBox v).toLoadRect.idx (ix3 0 r t)) = _
  rw [idx_halfBox]
  refine (canon_at (V.dhq c) (dhq I c) (dhqChunk I c) (dhqChunk_blocks R c) _
    (dhqPiece_mem c ⟨r.val % 8 / 2, by omega⟩ ⟨r.val % 2, by omega⟩ v)
    (ix3 0 ⟨r.val / 8, by omega⟩ t) (ix3 v r t)
    ((idx_rowBox v _ ⟨r.val / 8, by omega⟩ t).trans (idx3_ext rfl ?_ rfl))).trans rfl
  show r.val / 8 * 8 + (r.val % 8 / 2 * 2 + r.val % 2) = r.val
  omega

omit R in
/-- Two halves that each are a function of the token are that function over the chunk. -/
theorem sideBySide_eq (A B : Vec Ideal S1x128x128 .f32) (r : Fin 128) (g : Fin 256 → EReal)
    (hA : ∀ t, A (ix3 0 r t) = g (half 0 t)) (hB : ∀ t, B (ix3 0 r t) = g (half 1 t)) (t : Fin 256) : sideBySide A B r t = g t := by
  unfold sideBySide
  split
  · rw [hA]; congr 1; exact Fin.ext (by simp [half])
  · rw [hB]; congr 1; exact Fin.ext (by simp [half]; omega)

theorem dhSide (c : ℕ) (r : Fin 128) (t : Fin 256) : sideBySide (dhLd I c 0) (dhLd I c 1) r t = V.dhRow r (tok c t) :=
  sideBySide_eq _ _ r (fun t => V.dhRow r (tok c t)) (dhLd_apply R c 0 r) (dhLd_apply R c 1 r) t

/-! ### The blocks of `dh` and `dx` -/

/-- The block of `dh`. -/
def Vals.dhBlk (V : Vals) : Vec Ideal S1x16x8x2048 .bf16 := fun y => V.dh (y 1) (y 2) (y 3)

/-- The block of `dx`. -/
def Vals.dxBlk (V : Vals) : Vec Ideal S1x2048x1024 .bf16 := fun y =>
  (∑ q : Fin 8, V.dh ⟨(y 2).val / 64, Nat.div_lt_of_lt_mul (y 2).isLt⟩ q (y 1) *
    V.r (ix3 ⟨(y 2).val / 64, Nat.div_lt_of_lt_mul (y 2).isLt⟩ q ⟨(y 2).val % 64, Nat.mod_lt _ (by decide)⟩)) *
    V.rs (ix1 ⟨(y 2).val / 64, Nat.div_lt_of_lt_mul (y 2).isLt⟩)

theorem dhPiece_block (c : ℕ) (x : (dhPiece I c).1.shape.Idx) : (dhPiece I c).2 x = V.dhBlk ((dhPiece I c).1.emb x) := by
  obtain ⟨k, q, t, rfl⟩ : ∃ (k : Fin 16) (q : Fin 8) (t : Fin 256), x = ix4 0 k q t :=
    ⟨x 1, x 2, x 3, idx4_ext (by have h := (x 0).isLt; change (x 0).val < 1 at h; show (x 0).val = 0; omega) rfl rfl rfl⟩
  have e : (dhPiece I c).1.emb (ix4 0 k q t) = ix4 0 k q (tok c t) := idx_hBox c k q t
  rw [e]
  refine (pay125_apply _ _ k q t).trans ?_
  rw [dhSide R]
  show V.dh _ _ _ = V.dh _ _ _
  congr 1
  · refine Fin.ext ?_
    show (k.val * 8 + q.val) / 8 = k.val
    omega
  · refine Fin.ext ?_
    show (k.val * 8 + q.val) % 8 = q.val
    omega

omit R in
/-- A token is token `t % 256` of chunk `t / 256`. -/
theorem tok_divmod (t : Fin 2048) : tok (t.val / 256) ⟨t.val % 256, Nat.mod_lt _ (by decide)⟩ = t := by
  refine Fin.ext ?_
  show t.val / 256 % 8 * 256 + t.val % 256 = t.val
  omega

omit R in
theorem dhPiece_mem (c n : ℕ) (h : c < n) : dhPiece I c ∈ dhPieces I n := by
  induction n with
  | zero => omega
  | succ n ih =>
    rcases Nat.lt_succ_iff_lt_or_eq.mp h with h | rfl
    · exact List.mem_cons_of_mem _ (ih h)
    · exact List.mem_cons_self

theorem dhPieces_blocks (n : ℕ) : ∀ p ∈ dhPieces I n, ∀ x : p.1.shape.Idx, p.2 x = V.dhBlk (p.1.emb x) := by
  induction n with
  | zero => intro p hp; simp [dhPieces] at hp
  | succ n ih =>
    intro p hp
    rcases List.mem_cons.mp hp with rfl | hp
    · exact dhPiece_block R n
    · exact ih p hp

/-- The stores of `dh` leave its block. -/
theorem dh_canon : View.canon (dhPieces I 8) = V.dhBlk := by
  funext y
  obtain ⟨k, q, t, rfl⟩ : ∃ (k : Fin 16) (q : Fin 8) (t : Fin 2048), y = ix4 0 k q t :=
    ⟨y 1, y 2, y 3, idx4_ext (by have h := (y 0).isLt; change (y 0).val < 1 at h; show (y 0).val = 0; omega) rfl rfl rfl⟩
  rw [← List.append_nil (dhPieces I 8)]
  refine canon_at V.dhBlk [] _ (dhPieces_blocks R 8) (dhPiece I (t.val / 256)) (dhPiece_mem _ 8 (by omega))
    (ix4 0 k q ⟨t.val % 256, Nat.mod_lt _ (by decide)⟩) _ ?_
  exact (idx_hBox _ k q _).trans (by rw [tok_divmod])

omit R in
/-- A sum over the 128 rows of which those of one head count. -/
theorem sum_head (k : Fin 16) (f : Fin 128 → EReal) :
    (∑ m : Fin 128, if m.val / 8 = k.val then f m else 0) = ∑ q : Fin 8, f ⟨k.val * 8 + q.val, by omega⟩ := by
  rw [← Fin.sum_mul_add_fin 16 8 (fun m : Fin 128 => if m.val / 8 = k.val then f m else 0)]
  rw [Finset.sum_eq_single k]
  · refine Finset.sum_congr rfl fun s _ => if_pos ?_
    show (k.val * 8 + s.val) / 8 = k.val
    omega
  · intro a _ ha
    refine Finset.sum_eq_zero fun s _ => if_neg ?_
    show ¬ (a.val * 8 + s.val) / 8 = k.val
    intro e; exact ha (Fin.ext (by omega))
  · intro h'; exact absurd (Finset.mem_univ _) h'

theorem dxPiece_block (c : ℕ) (j : Fin 4) (x : (dxPiece I c j).1.shape.Idx) :
    (dxPiece I c j).2 x = V.dxBlk ((dxPiece I c j).1.emb x) := by
  obtain ⟨t, n, rfl⟩ : ∃ (t n : Fin 256), x = ix3 0 t n :=
    ⟨x 1, x 2, idx3_ext (by have h := (x 0).isLt; change (x 0).val < 1 at h; show (x 0).val = 0; omega) rfl rfl⟩
  have e : (dxPiece I c j).1.emb (ix3 0 t n) = ix3 0 (tok c t) (lane j n) := idx_tokBox c j t n
  rw [e]
  refine (pay130_apply _ _ _ t n).trans ?_
  rw [R.rsr, idx_rsrBox]
  have hs : (∑ m : Fin 128, k0_pay127 (dhLd I c 0) (dhLd I c 1) (ix2 t m) * I.rb (rbBox j).toLoadRect (ix2 m n)) =
      ∑ m : Fin 128, if m.val / 8 = (⟨(lane j n).val / 64, by have := (lane j n).isLt; omega⟩ : Fin 16).val then
        V.dhRow m (tok c t) * V.r (ix3 ⟨m.val / 8, by omega⟩ ⟨m.val % 8, Nat.mod_lt _ (by decide)⟩
          ⟨(lane j n).val % 64, Nat.mod_lt _ (by decide)⟩) else 0 := by
    refine Finset.sum_congr rfl fun m _ => ?_
    rw [R.rb, idx_rbBox, pay127_apply, dhSide R]
    show _ * (if m.val / 8 = (lane j n).val / 64 then V.r (ix3 _ _ _) else (0 : EReal)) = _
    by_cases h : m.val / 8 = (lane j n).val / 64
    · rw [if_pos h, if_pos h]; rfl
    · rw [if_neg h, if_neg h, mul_zero]
  rw [hs, sum_head]
  show _ * V.rs _ = _ * V.rs _
  congr 1
  refine Finset.sum_congr rfl fun q _ => ?_
  have e1 : ((lane j n).val / 64 * 8 + q.val) / 8 = (lane j n).val / 64 := by omega
  have e2 : ((lane j n).val / 64 * 8 + q.val) % 8 = q.val := by omega
  unfold Vals.dhRow
  congr 2
  · exact Fin.ext e1
  · exact Fin.ext e2
  · congr 1
    · exact Fin.ext e1
    · exact Fin.ext e2

omit R in
theorem dxPiece_mem (c n : ℕ) (h : c < n) (j : Fin 4) : dxPiece I c j ∈ dxPieces I n := by
  induction n with
  | zero => omega
  | succ n ih =>
    rcases Nat.lt_succ_iff_lt_or_eq.mp h with h | rfl
    · have := ih h
      simp only [dxPieces, List.mem_cons]
      tauto
    · fin_cases j <;> simp [dxPieces]

theorem dxPieces_blocks (n : ℕ) : ∀ p ∈ dxPieces I n, ∀ x : p.1.shape.Idx, p.2 x = V.dxBlk (p.1.emb x) := by
  induction n with
  | zero => intro p hp; simp [dxPieces] at hp
  | succ n ih =>
    intro p hp
    simp only [dxPieces, List.mem_cons] at hp
    rcases hp with h | h | h | h | h
    all_goals first | (subst h; exact dxPiece_block R _ _) | exact ih p h

/-- The stores of `dx` leave its block. -/
theorem dx_canon : View.canon (dxPieces I 8) = V.dxBlk := by
  funext y
  obtain ⟨t, n, rfl⟩ : ∃ (t : Fin 2048) (n : Fin 1024), y = ix3 0 t n :=
    ⟨y 1, y 2, idx3_ext (by have h := (y 0).isLt; change (y 0).val < 1 at h; show (y 0).val = 0; omega) rfl rfl⟩
  rw [← List.append_nil (dxPieces I 8)]
  refine canon_at V.dxBlk [] _ (dxPieces_blocks R 8) (dxPiece I (t.val / 256) ⟨n.val / 256, by omega⟩) (dxPiece_mem _ 8 (by omega) _)
    (ix3 0 ⟨t.val % 256, Nat.mod_lt _ (by decide)⟩ ⟨n.val % 256, Nat.mod_lt _ (by decide)⟩) _ ?_
  refine (idx_tokBox _ _ _ _).trans ?_
  rw [tok_divmod]
  congr 1
  refine Fin.ext ?_
  show n.val / 256 * 256 + n.val % 256 = n.val
  omega

/-! ### The terms of the weight gradients -/

theorem hqPiece0_block (c : ℕ) (x : (hqPiece0 I c).1.shape.Idx) : (hqPiece0 I c).2 x = V.hq c ((hqPiece0 I c).1.emb x) := by
  obtain ⟨r, t, rfl⟩ : ∃ (r t : Fin 128), x = ix3 0 r t :=
    ⟨x 1, x 2, idx3_ext (by have h := (x 0).isLt; change (x 0).val < 1 at h; show (x 0).val = 0; omega) rfl rfl⟩
  have e : (hqPiece0 I c).1.emb (ix3 0 r t) = ix3 0 r t := idx_halfBox 0 r t
  rw [e]
  refine (pay99_apply _ _ _ r t).trans ((pay98_apply _ _ _ r _).trans ?_)
  rw [dys16_apply R, hs16_apply R, R.h, idx_hBox]
  have ht : (⟨t.val, by omega⟩ : Fin 256) = half 0 t := Fin.ext (by simp [half])
  rw [ht]
  rfl

theorem hqPiece1_block (c : ℕ) (x : (hqPiece1 I c).1.shape.Idx) : (hqPiece1 I c).2 x = V.hq c ((hqPiece1 I c).1.emb x) := by
  obtain ⟨r, t, rfl⟩ : ∃ (r t : Fin 128), x = ix3 0 r t :=
    ⟨x 1, x 2, idx3_ext (by have h := (x 0).isLt; change (x 0).val < 1 at h; show (x 0).val = 0; omega) rfl rfl⟩
  have e : (hqPiece1 I c).1.emb (ix3 0 r t) = ix3 1 r t := idx_halfBox 1 r t
  rw [e]
  refine (pay100_apply _ _ _ r t).trans ((pay98_apply _ _ _ r _).trans ?_)
  rw [dys16_apply R, hs16_apply R, R.h, idx_hBox]
  have ht : (⟨128 + t.val, by omega⟩ : Fin 256) = half 1 t := Fin.ext (by simp [half])
  rw [ht]
  rfl

/-- Rows of one digit of the scaled `h`, loaded back. -/
theorem hqLd_apply (c : ℕ) (v : Fin 2) (q : Fin 8) (k : Fin 16) (t : Fin 128) :
    hqLd I c v q (ix3 0 k t) = V.hsc k q (tok c (half v t)) := by
  unfold hqLd
  rw [View.readCov_eq_canon']
  show View.canon ([hqPiece1 I c, hqPiece0 I c] ++ hq I c) ((rowBox v q).toLoadRect.idx (ix3 0 k t)) = _
  rw [idx_rowBox]
  have hL : ∀ p ∈ [hqPiece1 I c, hqPiece0 I c], ∀ x : p.1.shape.Idx, p.2 x = V.hq c (p.1.emb x) := by
    intro p hp
    simp only [List.mem_cons, List.not_mem_nil, or_false] at hp
    rcases hp with rfl | rfl
    · exact hqPiece1_block R c
    · exact hqPiece0_block R c
  have hv : View.canon ([hqPiece1 I c, hqPiece0 I c] ++ hq I c) (ix3 v ⟨k.val * 8 + q.val, by omega⟩ t) =
      V.hq c (ix3 v ⟨k.val * 8 + q.val, by omega⟩ t) := by
    fin_cases v
    · exact canon_at _ _ _ hL (hqPiece0 I c) (by simp) (ix3 0 ⟨k.val * 8 + q.val, by omega⟩ t) _ (idx_halfBox 0 _ t)
    · exact canon_at _ _ _ hL (hqPiece1 I c) (by simp) (ix3 0 ⟨k.val * 8 + q.val, by omega⟩ t) _ (idx_halfBox 1 _ t)
  rw [hv]
  show V.hsc _ _ _ = V.hsc _ _ _
  congr 1
  · refine Fin.ext ?_
    show (k.val * 8 + q.val) / 8 = k.val
    omega
  · refine Fin.ext ?_
    show (k.val * 8 + q.val) % 8 = q.val
    omega

omit R in
theorem sideBySide16_eq (A B : Vec Ideal S1x16x128 .f32) (r : Fin 16) (g : Fin 256 → EReal)
    (hA : ∀ t, A (ix3 0 r t) = g (half 0 t)) (hB : ∀ t, B (ix3 0 r t) = g (half 1 t)) (t : Fin 256) : sideBySide16 A B r t = g t := by
  unfold sideBySide16
  split
  · rw [hA]; congr 1; exact Fin.ext (by simp [half])
  · rw [hB]; congr 1; exact Fin.ext (by simp [half]; omega)

/-- The term of the gradient of `l` at a token: row `r` of tile `j`, lane `m`. -/
def Vals.dlT (V : Vals) (j : Fin 4) (r : Fin 32) (m : Fin 256) (t : Fin 2048) : EReal :=
  V.hsc ⟨r.val % 16, Nat.mod_lt _ (by decide)⟩ ⟨j.val * 2 + r.val / 16, by omega⟩ t *
    V.dyE ⟨j.val * 2 + m.val / 128, by omega⟩ ⟨m.val % 128, Nat.mod_lt _ (by decide)⟩ t

/-- The term of the gradient of `r` at a token: row `r` of tile `j`, lane `n`. -/
def Vals.drT (V : Vals) (j : Fin 4) (r : Fin 32) (n : Fin 256) (t : Fin 2048) : EReal :=
  V.dhRow (row j r) t * V.xs (ix2 V.b t) * V.x (ix3 0 t (lane j n))

theorem dl_apply (c : ℕ) (j : Fin 4) (r : Fin 32) (m : Fin 256) :
    dl I c j (ix2 r m) = ∑ t : Fin 256, V.dlT j r m (tok c t) := by
  unfold dl
  rw [pay128_apply]
  refine Finset.sum_congr rfl fun t _ => ?_
  rw [dypLd_apply R]
  unfold Vals.dlT
  congr 1
  split
  · rename_i h
    rw [sideBySide16_eq _ _ _ (fun t => V.hsc ⟨r.val, h⟩ ⟨j.val * 2 + 0, by omega⟩ (tok c t)) (hqLd_apply R c 0 _ _) (hqLd_apply R c 1 _ _)]
    congr 1
    · exact Fin.ext (by show r.val = r.val % 16; omega)
    · exact Fin.ext (by show j.val * 2 + 0 = j.val * 2 + r.val / 16; omega)
  · rename_i h
    rw [sideBySide16_eq _ _ _ (fun t => V.hsc ⟨r.val - 16, by omega⟩ ⟨j.val * 2 + 1, by omega⟩ (tok c t)) (hqLd_apply R c 0 _ _) (hqLd_apply R c 1 _ _)]
    congr 1
    · exact Fin.ext (by show r.val - 16 = r.val % 16; omega)
    · exact Fin.ext (by show j.val * 2 + 1 = j.val * 2 + r.val / 16; omega)

theorem dr_apply (c : ℕ) (j : Fin 4) (r : Fin 32) (n : Fin 256) :
    dr I c j (ix2 r n) = ∑ t : Fin 256, V.drT j r n (tok c t) := by
  have h : dr I c j (ix2 r n) = ∑ t : Fin 256, k0_pay126 (xS16 I c) (dhLd I c 0) (dhLd I c 1) (ix2 (row j r) t) *
      xLd I c j (ix3 0 t n) := by
    unfold dr
    generalize k0_pay126 (xS16 I c) (dhLd I c 0) (dhLd I c 1) = W
    generalize xLd I c j = X
    pointwise []
    rfl
  rw [h]
  refine Finset.sum_congr rfl fun t _ => ?_
  rw [pay126_apply, dhSide R, xs16_apply R]
  unfold Vals.drT xLd
  rw [R.x, idx_tokBox]

/-! ### A whole point's sums -/

omit R in
theorem sumTo_apply (f : ℕ → FVec Ideal S32x256 .f32) (n : ℕ) (x : S32x256.Idx) :
    sumTo f n x = ∑ c : Fin (n + 1), f c.val x := by
  induction n with
  | zero => simp [sumTo]
  | succ n ih =>
    rw [Fin.sum_univ_castSucc]
    show sumTo f n x + f (n + 1) x = _
    rw [ih]
    rfl

omit R in
theorem sum_tok (g : Fin 2048 → EReal) : (∑ c : Fin 8, ∑ t : Fin 256, g (tok c.val t)) = ∑ t : Fin 2048, g t := by
  refine Fin.sum_mul_add_congr fun c t hl => ?_
  congr 1
  refine Fin.ext ?_
  show c.val % 8 * 256 + t.val = c.val * 256 + t.val
  omega

/-- A point's part of the gradient of `l`: the sum over its tokens. -/
theorem dlSum_apply (j : Fin 4) (r : Fin 32) (m : Fin 256) : dlSum I j (ix2 r m) = ∑ t : Fin 2048, V.dlT j r m t := by
  unfold dlSum
  rw [sumTo_apply]
  exact (Finset.sum_congr rfl fun c _ => dl_apply R c.val j r m).trans (sum_tok _)

/-- A point's part of the gradient of `r`. -/
theorem drSum_apply (j : Fin 4) (r : Fin 32) (n : Fin 256) : drSum I j (ix2 r n) = ∑ t : Fin 2048, V.drT j r n t := by
  unfold drSum
  rw [sumTo_apply]
  exact (Finset.sum_congr rfl fun c _ => dr_apply R c.val j r n).trans (sum_tok _)

end

end Cert.KernelIdeal.Model

end
-- ==== Proof.Acc.lean ====
/-
  The two accumulators: what the stores of a point leave in them, and the weight gradients written out from them.
-/
module

public import proofs.«01_k».proof.Proof.Math2

@[expose] public section

set_option maxRecDepth 16384

noncomputable section

namespace Cert.KernelIdeal.Model

open Idealize.ShloMosaic Idealize.SL.Sem Idealize.ShloMosaic.TcCoe Cert.KernelIdeal.Gen

/-- An accumulator with the four tiles of a point added to it. -/
def accAdd (O : Vec Ideal S128x256 .f32) (t : Fin 4 → FVec Ideal S32x256 .f32) : Vec Ideal S128x256 .f32 := fun y =>
  (O y + t ⟨(y 0).val / 32, Nat.div_lt_of_lt_mul (y 0).isLt⟩ (ix2 ⟨(y 0).val % 32, Nat.mod_lt _ (by decide)⟩ (y 1)) : EReal)

theorem accAdd_row (O : Vec Ideal S128x256 .f32) (t : Fin 4 → FVec Ideal S32x256 .f32) (j : Fin 4) (r : Fin 32) (m : Fin 256) :
    accAdd O t (ix2 (row j r) m) = (O (ix2 (row j r) m) + t j (ix2 r m) : EReal) := by
  have h1 : (⟨(row j r).val / 32, Nat.div_lt_of_lt_mul (row j r).isLt⟩ : Fin 4) = j := by apply Fin.ext; simp only [row]; omega
  have h2 : (⟨(row j r).val % 32, Nat.mod_lt _ (by decide)⟩ : Fin 32) = r := by apply Fin.ext; simp only [row]; omega
  show (O (ix2 (row j r) m) + t ⟨(row j r).val / 32, _⟩ (ix2 ⟨(row j r).val % 32, _⟩ m) : EReal) = _
  rw [h1, h2]

theorem row_divmod (a : Fin 128) : row ⟨a.val / 32, by omega⟩ ⟨a.val % 32, by omega⟩ = a := by
  apply Fin.ext; simp only [row]; omega

/-- One store into an accumulator. -/
theorem accPiece_apply (old : Vec Ideal S32x256 .f32) (t : FVec Ideal S32x256 .f32) (j : Fin 4) (r : Fin 32) (m : Fin 256) :
    (accPiece old t j).2 (ix2 r m) = (old (ix2 r m) + t (ix2 r m) : EReal) := by
  show shapeCast S32x256 (addf old t) _ (ix2 r m) = _
  pointwise []

theorem emb_ltBox (j : Fin 4) (r : Fin 32) (m : Fin 256) : (ltBox j).emb (ix2 r m) = ix2 (row j r) m := idx_ltBox j r m

/-- The four stores over what the accumulator held. -/
theorem canon_accPieces (O : Vec Ideal S128x256 .f32) (old : Load Ideal S128x256 .f32) (hold : ∀ B y, old B y = O (B.idx y))
    (t : Fin 4 → FVec Ideal S32x256 .f32) : View.canon (accPieces old t) = accAdd O t := by
  have hp : ∀ (j : Fin 4) (x : (ltBox j).shape.Idx),
      (accPiece (old (ltBox j).toLoadRect) (t j) j).2 x = accAdd O t ((ltBox j).emb x) := by
    intro j x
    obtain ⟨r, m, rfl⟩ : ∃ (r : Fin 32) (m : Fin 256), x = ix2 r m := ⟨x 0, x 1, idx2_ext rfl rfl⟩
    rw [emb_ltBox, accAdd_row]
    refine (accPiece_apply _ _ j r m).trans ?_
    rw [hold, idx_ltBox]
  funext y
  obtain ⟨a, m, rfl⟩ : ∃ (a : Fin 128) (m : Fin 256), y = ix2 a m := ⟨y 0, y 1, idx2_ext rfl rfl⟩
  obtain ⟨j, r, rfl⟩ : ∃ (j : Fin 4) (r : Fin 32), a = row j r := ⟨_, _, (row_divmod a).symm⟩
  rw [← List.append_nil (accPieces old t)]
  refine canon_at (accAdd O t) [] _ ?_ (accPiece (old (ltBox j).toLoadRect) (t j) j) ?_ (ix2 r m) _ (emb_ltBox j r m)
  · intro p hpm
    simp only [accPieces, List.mem_cons, List.not_mem_nil, or_false] at hpm
    rcases hpm with rfl | rfl | rfl | rfl <;> exact hp _
  · fin_cases j <;> simp [accPieces]

/-- The stores of the first `n` tiles over earlier stores of the same point. -/
theorem canon_accOver (v : Memref sig .tc .vmem S128x256 .f32) (L : List (View.Piece (Elt Ideal) S128x256 .f32))
    (t : Fin 4 → FVec Ideal S32x256 .f32) (n : ℕ) (h : n ≤ 4) (j : Fin 4) (r : Fin 32) (m : Fin 256) :
    View.canon (accOver v L t n h) (ix2 (row j r) m) =
      if j.val < n then (View.canon L (ix2 (row j r) m) + t j (ix2 r m) : EReal) else View.canon L (ix2 (row j r) m) := by
  induction n generalizing j r m with
  | zero => simp [accOver]
  | succ n ih =>
    by_cases e : j.val = n
    · obtain rfl : j = ⟨n, h⟩ := Fin.ext e
      rw [if_pos (Nat.lt_succ_self n), ← emb_ltBox]
      show View.canon (⟨ltBox ⟨n, h⟩, _⟩ :: _) _ = _
      rw [View.canon_cons_emb]
      refine (accPiece_apply _ _ ⟨n, h⟩ r m).trans ?_
      rw [View.readCov_eq_canon']
      show (View.canon (Val := Elt Ideal) (e := .f32) (accOver v L t n (by omega)) ((ltBox ⟨n, h⟩).toLoadRect.idx (ix2 r m)) + t ⟨n, h⟩ (ix2 r m) : EReal) = _
      rw [idx_ltBox, ih, if_neg (Nat.lt_irrefl n), emb_ltBox]
    · show View.canon (accPiece _ _ _ :: _) _ = _
      rw [View.canon_cons_of_not_mem, ih]
      · exact if_congr (by omega) rfl rfl
      · show ix2 (row j r) m ∉ (ltBox ⟨n, h⟩).set
        intro hm
        have h0 := (Rect.mem_set_unit.mp hm) 0
        have h1 : n * 32 ≤ j.val * 32 + r.val ∧ j.val * 32 + r.val < n * 32 + 32 := h0
        omega

theorem canon_accOver4 (v : Memref sig .tc .vmem S128x256 .f32) (L : List (View.Piece (Elt Ideal) S128x256 .f32))
    (t : Fin 4 → FVec Ideal S32x256 .f32) : View.canon (accOver v L t 4 (Nat.le_refl 4)) = accAdd (View.canon L) t := by
  funext y
  obtain ⟨a, m, rfl⟩ : ∃ (a : Fin 128) (m : Fin 256), y = ix2 a m := ⟨y 0, y 1, idx2_ext rfl rfl⟩
  obtain ⟨j, r, rfl⟩ : ∃ (j : Fin 4) (r : Fin 32), a = row j r := ⟨_, _, (row_divmod a).symm⟩
  rw [canon_accOver, if_pos j.isLt, accAdd_row]

/-- The gradient of `l` as it is written out of the accumulator `A`. -/
def dlOf (A : Vec Ideal S128x256 .f32) : Vec Ideal S8x16x128 .f32 := fun y =>
  A (ix2 ⟨(y 0).val * 16 + (y 1).val, by have h0 := (y 0).isLt; have h1 := (y 1).isLt; change (y 0).val < 8 at h0; change (y 1).val < 16 at h1; omega⟩
    ⟨(y 0).val % 2 * 128 + (y 2).val, by have h2 := (y 2).isLt; change (y 2).val < 128 at h2; omega⟩)

/-- The gradient of `r` as it is written out of the accumulator `A`. -/
def drOf (A : Vec Ideal S128x256 .f32) : Vec Ideal S16x8x64 .f32 := fun y =>
  A (ix2 ⟨(y 0).val * 8 + (y 1).val, by have h0 := (y 0).isLt; have h1 := (y 1).isLt; change (y 0).val < 16 at h0; change (y 1).val < 8 at h1; omega⟩
    ⟨(y 0).val % 4 * 64 + (y 2).val, by have h2 := (y 2).isLt; change (y 2).val < 64 at h2; omega⟩)

theorem emb_dlOut (q : Fin 8) (k : Fin 16) (s : Fin 128) (inb) :
    (Rect.unit (s := S8x16x128) ![q.val, 0, 0] S1x16x128.size inb).emb (ix3 0 k s) = ix3 q k s := by
  refine idx3_ext ?_ ?_ ?_ <;> simp [Rect.unit, Rect.emb, LoadRect.idx]

theorem emb_drOut (k : Fin 16) (q : Fin 8) (p : Fin 64) (inb) :
    (Rect.unit (s := S16x8x64) ![k.val, 0, 0] S1x8x64.size inb).emb (ix3 0 q p) = ix3 k q p := by
  refine idx3_ext ?_ ?_ ?_ <;> simp [Rect.unit, Rect.emb, LoadRect.idx]

theorem canon_dlOuts (v : Memref sig .tc .vmem S128x256 .f32) (L : List (View.Piece (Elt Ideal) S128x256 .f32)) :
    View.canon (dlOuts v L) = dlOf (View.canon L) := by
  have he : ∀ (q : Fin 8) (k : Fin 16) (s : Fin 128), (dlOut v L q).1.emb (ix3 0 k s) = ix3 q k s :=
    fun q k s => emb_dlOut q k s (inb3 (by omega) (by omega) (by omega))
  have hp : ∀ (q : Fin 8) (x : (dlOut v L q).1.shape.Idx), (dlOut v L q).2 x = dlOf (View.canon L) ((dlOut v L q).1.emb x) := by
    intro q x
    obtain ⟨k, s, rfl⟩ : ∃ (k : Fin 16) (s : Fin 128), x = ix3 0 k s :=
      ⟨x 1, x 2, idx3_ext (by have h := (x 0).isLt; change (x 0).val < 1 at h; show (x 0).val = 0; omega) rfl rfl⟩
    have e : (dlOut v L q).1.emb (ix3 0 k s) = ix3 q k s := he q k s
    rw [e]
    show shapeCast S1x16x128 (dlOutLd v L q) _ (ix3 0 k s) = _
    pointwise []
    unfold dlOutLd
    rw [View.readCov_eq_canon']
    show View.canon L _ = View.canon L _
    congr 1
    refine idx2_ext ?_ ?_ <;> simp [Rect.unit, LoadRect.idx]
  funext y
  obtain ⟨q, k, s, rfl⟩ : ∃ (q : Fin 8) (k : Fin 16) (s : Fin 128), y = ix3 q k s := ⟨y 0, y 1, y 2, idx3_ext rfl rfl rfl⟩
  rw [← List.append_nil (dlOuts v L)]
  refine canon_at (dlOf (View.canon L)) [] _ ?_ (dlOut v L q) ?_ (ix3 0 k s) _ (he q k s)
  · intro p hpm
    simp only [dlOuts, List.mem_cons, List.not_mem_nil, or_false] at hpm
    rcases hpm with rfl | rfl | rfl | rfl | rfl | rfl | rfl | rfl <;> exact hp _
  · fin_cases q <;> simp [dlOuts]

theorem canon_drOuts (v : Memref sig .tc .vmem S128x256 .f32) (L : List (View.Piece (Elt Ideal) S128x256 .f32)) :
    View.canon (drOuts v L) = drOf (View.canon L) := by
  have he : ∀ (k : Fin 16) (q : Fin 8) (p : Fin 64), (drOut v L k).1.emb (ix3 0 q p) = ix3 k q p :=
    fun k q p => emb_drOut k q p (inb3 (by omega) (by omega) (by omega))
  have hp : ∀ (k : Fin 16) (x : (drOut v L k).1.shape.Idx), (drOut v L k).2 x = drOf (View.canon L) ((drOut v L k).1.emb x) := by
    intro k x
    obtain ⟨q, p, rfl⟩ : ∃ (q : Fin 8) (p : Fin 64), x = ix3 0 q p :=
      ⟨x 1, x 2, idx3_ext (by have h := (x 0).isLt; change (x 0).val < 1 at h; show (x 0).val = 0; omega) rfl rfl⟩
    have e : (drOut v L k).1.emb (ix3 0 q p) = ix3 k q p := he k q p
    rw [e]
    show shapeCast S1x8x64 (drOutLd v L k) _ (ix3 0 q p) = _
    pointwise []
    unfold drOutLd
    rw [View.readCov_eq_canon']
    show View.canon L _ = View.canon L _
    congr 1
    refine idx2_ext ?_ ?_ <;> simp [Rect.unit, LoadRect.idx]
  funext y
  obtain ⟨k, q, p, rfl⟩ : ∃ (k : Fin 16) (q : Fin 8) (p : Fin 64), y = ix3 k q p := ⟨y 0, y 1, y 2, idx3_ext rfl rfl rfl⟩
  rw [← List.append_nil (drOuts v L)]
  refine canon_at (drOf (View.canon L)) [] _ ?_ (drOut v L k) ?_ (ix3 0 q p) _ (he k q p)
  · intro z hzm
    simp only [drOuts, List.mem_cons, List.not_mem_nil, or_false] at hzm
    rcases hzm with rfl | rfl | rfl | rfl | rfl | rfl | rfl | rfl | rfl | rfl | rfl | rfl | rfl | rfl | rfl | rfl <;> exact hp _
  · fin_cases k <;> simp [drOuts]

end Cert.KernelIdeal.Model

end
-- ==== Proof.ModelIns.lean ====
/-
  What a grid point reads, from the memrefs the body runs on: the blocks of the six activations, and the weights either from the scratch
  the point before left or from the point's own stores.
-/
module

public import proofs.«01_k».proof.Proof.Model

@[expose] public section

set_option maxRecDepth 16384

noncomputable section

namespace Cert.KernelIdeal.Model

open Idealize.ShloMosaic Idealize.SL.Sem Cert.KernelIdeal.Gen

variable {F : FTy → Type} [FloatOps F]

/-- What a point reads that finds the weights in the scratch the point before left. -/
def insHeld
    (i : grid0.Coords) (arg2 : Memref sig .tc .vmem S1x2048x1024 .fp8e5m2) (harg2 : arg2.IsWhole) (arg3 : Memref
    sig .tc .vmem S8x2048 .f32) (harg3 : arg3.IsWhole) (arg4 : Memref sig .tc .vmem S1x2048x1024 .fp8e4m3)
    (harg4 : arg4.IsWhole) (arg5 : Memref sig .tc .vmem S8x2048 .f32) (harg5 : arg5.IsWhole) (arg6 : Memref sig
    .tc .vmem S1x16x8x2048 .fp8e4m3) (harg6 : arg6.IsWhole) (arg7 : Memref sig .tc .vmem S8x2048 .f32) (harg7 :
    arg7.IsWhole) (arg16 : Memref sig .tc .vmem S256x256 .fp8e4m3) (harg16 : arg16.IsWhole) (arg17 : Memref sig
    .tc .vmem S128x256 .fp8e4m3) (harg17 : arg17.IsWhole) (arg18 : Memref sig .tc .vmem S128x1024 .bf16) (harg18
    : arg18.IsWhole) (arg19 : Memref sig .tc .vmem S128x128 .f32) (harg19 : arg19.IsWhole) (arg20 : Memref sig
    .tc .vmem S8x1024 .f32) (harg20 : arg20.IsWhole) (arg23 : Memref sig .tc .vmem S1024x2048 .fp8e5m2) (arg24 :
    Memref sig .tc .vmem S2x128x128 .f32) (arg25 : Memref sig .tc .vmem S2x128x128 .f32) (x0 : Vec F
    S1x2048x1024 .fp8e5m2) (x1 : Vec F S8x2048 .f32) (x2 : Vec F S1x2048x1024 .fp8e4m3) (x3 : Vec F S8x2048
    .f32) (x4 : Vec F S1x16x8x2048 .fp8e4m3) (x5 : Vec F S8x2048 .f32) (xs0 : Vec F S256x256 .fp8e4m3) (xs1 :
    Vec F S128x256 .fp8e4m3) (xs2 : Vec F S128x1024 .bf16) (xs3 : Vec F S128x128 .f32) (xs4 : Vec F S8x1024
    .f32) :
    Ins F :=
  { i := i, dy := fun B => View.readAt (Elt F) arg2.view B (harg2.unread x0), dys := fun B => View.readAt (Elt F) arg3.view B (harg3.unread x1),
    x := fun B => View.readAt (Elt F) arg4.view B (harg4.unread x2), xs := fun B => View.readAt (Elt F) arg5.view B (harg5.unread x3),
    h := fun B => View.readAt (Elt F) arg6.view B (harg6.unread x4), hs := fun B => View.readAt (Elt F) arg7.view B (harg7.unread x5),
    perm := fun B => View.readAt (Elt F) arg16.view B (harg16.unread xs0), lt := fun B => View.readAt (Elt F) arg17.view B (harg17.unread xs1),
    rb := fun B => View.readAt (Elt F) arg18.view B (harg18.unread xs2), lsc := fun B => View.readAt (Elt F) arg19.view B (harg19.unread xs3),
    rsr := fun B => View.readAt (Elt F) arg20.view B (harg20.unread xs4),
    v23 := arg23, v24 := arg24, v25 := arg25 }

/-- What a point reads that stores the weights first: the weights are read back from those stores. -/
def insBuilt
    (i : grid0.Coords) (arg2 : Memref sig .tc .vmem S1x2048x1024 .fp8e5m2) (harg2 : arg2.IsWhole) (arg3 : Memref
    sig .tc .vmem S8x2048 .f32) (harg3 : arg3.IsWhole) (arg4 : Memref sig .tc .vmem S1x2048x1024 .fp8e4m3)
    (harg4 : arg4.IsWhole) (arg5 : Memref sig .tc .vmem S8x2048 .f32) (harg5 : arg5.IsWhole) (arg6 : Memref sig
    .tc .vmem S1x16x8x2048 .fp8e4m3) (harg6 : arg6.IsWhole) (arg7 : Memref sig .tc .vmem S8x2048 .f32) (harg7 :
    arg7.IsWhole) (arg16 : Memref sig .tc .vmem S256x256 .fp8e4m3) (arg17 : Memref sig .tc .vmem S128x256
    .fp8e4m3) (arg18 : Memref sig .tc .vmem S128x1024 .bf16) (arg19 : Memref sig .tc .vmem S128x128 .f32) (arg20
    : Memref sig .tc .vmem S8x1024 .f32) (arg23 : Memref sig .tc .vmem S1024x2048 .fp8e5m2) (arg24 : Memref sig
    .tc .vmem S2x128x128 .f32) (arg25 : Memref sig .tc .vmem S2x128x128 .f32) (x0 : Vec F S1x2048x1024 .fp8e5m2)
    (x1 : Vec F S8x2048 .f32) (x2 : Vec F S1x2048x1024 .fp8e4m3) (x3 : Vec F S8x2048 .f32) (x4 : Vec F
    S1x16x8x2048 .fp8e4m3) (x5 : Vec F S8x2048 .f32) (LS0 : List (View.Piece (Elt F) S256x256 .fp8e4m3)) (LS1 :
    List (View.Piece (Elt F) S128x256 .fp8e4m3)) (LS2 : List (View.Piece (Elt F) S128x1024 .bf16)) (LS3 : List
    (View.Piece (Elt F) S128x128 .f32)) (LS4 : List (View.Piece (Elt F) S8x1024 .f32)) :
    Ins F :=
  { i := i, dy := fun B => View.readAt (Elt F) arg2.view B (harg2.unread x0), dys := fun B => View.readAt (Elt F) arg3.view B (harg3.unread x1),
    x := fun B => View.readAt (Elt F) arg4.view B (harg4.unread x2), xs := fun B => View.readAt (Elt F) arg5.view B (harg5.unread x3),
    h := fun B => View.readAt (Elt F) arg6.view B (harg6.unread x4), hs := fun B => View.readAt (Elt F) arg7.view B (harg7.unread x5),
    perm := fun B => arg16.view.readCov LS0 B, lt := fun B => arg17.view.readCov LS1 B, rb := fun B => arg18.view.readCov LS2 B,
    lsc := fun B => arg19.view.readCov LS3 B, rsr := fun B => arg20.view.readCov LS4 B,
    v23 := arg23, v24 := arg24, v25 := arg25 }

end Cert.KernelIdeal.Model

end
-- ==== Proof.Point.lean ====
/-
  What a grid point computes, from the blocks it reads: its loads read those blocks, whether the weights are built at the point or held
  from the point before.
-/
module

public import proofs.«01_k».proof.Proof.Acc
public import proofs.«01_k».proof.Proof.ModelIns

@[expose] public section

set_option maxRecDepth 16384

noncomputable section

namespace Cert.KernelIdeal.Model

open Idealize.ShloMosaic Idealize.SL.Sem Idealize.ShloMosaic.TcCoe Cert.KernelIdeal.Gen

/-- The blocks of a point, from its grid coordinates and its ten inputs. -/
def valsOf (i : grid0.Coords)
    (x0 : Vec Ideal S1x2048x1024 .fp8e5m2) (x1 : Vec Ideal S8x2048 .f32) (x2 : Vec Ideal S1x2048x1024 .fp8e4m3)
    (x3 : Vec Ideal S8x2048 .f32) (x4 : Vec Ideal S1x16x8x2048 .fp8e4m3) (x5 : Vec Ideal S8x2048 .f32) (x6 : Vec
    Ideal S16x8x64 .fp8e4m3) (x7 : Vec Ideal S16 .f32) (x8 : Vec Ideal S8x16x128 .fp8e4m3) (x9 : Vec Ideal S8
    .f32) : Vals :=
  ⟨⟨(i 0).val % 8, Nat.mod_lt _ (by decide)⟩, x0, x1, x2, x3, x4, x5, x6, x7, x8, x9⟩

/-- The tiles a point adds to the accumulated gradient of `l`. -/
def Vals.dlTile (V : Vals) (j : Fin 4) : FVec Ideal S32x256 .f32 := fun y => (∑ t : Fin 2048, V.dlT j (y 0) (y 1) t : EReal)

/-- The tiles a point adds to the accumulated gradient of `r`. -/
def Vals.drTile (V : Vals) (j : Fin 4) : FVec Ideal S32x256 .f32 := fun y => (∑ t : Fin 2048, V.drT j (y 0) (y 1) t : EReal)

theorem dlSum_eq {I : Ins Ideal} {V : Vals} (R : Reads I V) : dlSum I = V.dlTile := by
  funext j y
  obtain ⟨r, m, rfl⟩ : ∃ (r : Fin 32) (m : Fin 256), y = ix2 r m := ⟨y 0, y 1, idx2_ext rfl rfl⟩
  exact dlSum_apply R j r m

theorem drSum_eq {I : Ins Ideal} {V : Vals} (R : Reads I V) : drSum I = V.drTile := by
  funext j y
  obtain ⟨r, m, rfl⟩ : ∃ (r : Fin 32) (m : Fin 256), y = ix2 r m := ⟨y 0, y 1, idx2_ext rfl rfl⟩
  exact drSum_apply R j r m

/-- A load of a buffer that holds `x`. -/
theorem read_held {s : Shape} {e : EltTy} {sp : Space} (M : Memref sig .tc sp s e) (hM : M.IsWhole) (x : Vec Ideal s e) (B : LoadRect s) (y : B.shape.Idx) :
    View.readAt (Elt Ideal) M.view B (hM.unread x) y = x (B.idx y) := by
  rw [View.readAt_apply, Memref.IsWhole.read_unread]

/-- A load of stores that make up `x`. -/
theorem read_stored {s : Shape} {e : EltTy} {sp : Space} (M : Memref sig .tc sp s e) (L : List (View.Piece (Elt Ideal) s e)) (x : Vec Ideal s e)
    (hL : View.canon L = x) (B : LoadRect s) (y : B.shape.Idx) : M.view.readCov L B y = x (B.idx y) := by
  subst hL
  rw [View.readCov_eq_canon']

/-- The loads of a point that finds the weights. -/
theorem reads_held
    (i : grid0.Coords) (arg2 : Memref sig .tc .vmem S1x2048x1024 .fp8e5m2) (harg2 : arg2.IsWhole) (arg3 : Memref
    sig .tc .vmem S8x2048 .f32) (harg3 : arg3.IsWhole) (arg4 : Memref sig .tc .vmem S1x2048x1024 .fp8e4m3)
    (harg4 : arg4.IsWhole) (arg5 : Memref sig .tc .vmem S8x2048 .f32) (harg5 : arg5.IsWhole) (arg6 : Memref sig
    .tc .vmem S1x16x8x2048 .fp8e4m3) (harg6 : arg6.IsWhole) (arg7 : Memref sig .tc .vmem S8x2048 .f32) (harg7 :
    arg7.IsWhole) (arg16 : Memref sig .tc .vmem S256x256 .fp8e4m3) (harg16 : arg16.IsWhole) (arg17 : Memref sig
    .tc .vmem S128x256 .fp8e4m3) (harg17 : arg17.IsWhole) (arg18 : Memref sig .tc .vmem S128x1024 .bf16) (harg18
    : arg18.IsWhole) (arg19 : Memref sig .tc .vmem S128x128 .f32) (harg19 : arg19.IsWhole) (arg20 : Memref sig
    .tc .vmem S8x1024 .f32) (harg20 : arg20.IsWhole) (arg23 : Memref sig .tc .vmem S1024x2048 .fp8e5m2) (arg24 :
    Memref sig .tc .vmem S2x128x128 .f32) (arg25 : Memref sig .tc .vmem S2x128x128 .f32) (x0 : Vec Ideal
    S1x2048x1024 .fp8e5m2) (x1 : Vec Ideal S8x2048 .f32) (x2 : Vec Ideal S1x2048x1024 .fp8e4m3) (x3 : Vec Ideal
    S8x2048 .f32) (x4 : Vec Ideal S1x16x8x2048 .fp8e4m3) (x5 : Vec Ideal S8x2048 .f32) (x6 : Vec Ideal S16x8x64
    .fp8e4m3) (x7 : Vec Ideal S16 .f32) (x8 : Vec Ideal S8x16x128 .fp8e4m3) (x9 : Vec Ideal S8 .f32) :
    Reads (insHeld i arg2 harg2 arg3 harg3 arg4 harg4 arg5 harg5 arg6 harg6 arg7 harg7 arg16 harg16 arg17 harg17 arg18 harg18 arg19 harg19 arg20 harg20 arg23 arg24 arg25 x0 x1 x2 x3 x4 x5
      permW (ltW (valsOf i x0 x1 x2 x3 x4 x5 x6 x7 x8 x9))
      (rbW (valsOf i x0 x1 x2 x3 x4 x5 x6 x7 x8 x9)) (lscW (valsOf i x0 x1 x2 x3 x4 x5 x6 x7 x8 x9))
      (rsrW (valsOf i x0 x1 x2 x3 x4 x5 x6 x7 x8 x9))) (valsOf i x0 x1 x2 x3 x4 x5 x6 x7 x8 x9) where
  row := rfl
  dy := read_held arg2 harg2 x0
  dys := read_held arg3 harg3 x1
  x := read_held arg4 harg4 x2
  xs := read_held arg5 harg5 x3
  h := read_held arg6 harg6 x4
  hs := read_held arg7 harg7 x5
  perm := read_held arg16 harg16 _
  lt := read_held arg17 harg17 _
  rb := read_held arg18 harg18 _
  lsc := read_held arg19 harg19 _
  rsr := read_held arg20 harg20 _

/-- The loads of a point that builds the weights. -/
theorem reads_built
    (i : grid0.Coords) (arg2 : Memref sig .tc .vmem S1x2048x1024 .fp8e5m2) (harg2 : arg2.IsWhole) (arg3 : Memref
    sig .tc .vmem S8x2048 .f32) (harg3 : arg3.IsWhole) (arg4 : Memref sig .tc .vmem S1x2048x1024 .fp8e4m3)
    (harg4 : arg4.IsWhole) (arg5 : Memref sig .tc .vmem S8x2048 .f32) (harg5 : arg5.IsWhole) (arg6 : Memref sig
    .tc .vmem S1x16x8x2048 .fp8e4m3) (harg6 : arg6.IsWhole) (arg7 : Memref sig .tc .vmem S8x2048 .f32) (harg7 :
    arg7.IsWhole) (arg16 : Memref sig .tc .vmem S256x256 .fp8e4m3) (arg17 : Memref sig .tc .vmem S128x256
    .fp8e4m3) (arg18 : Memref sig .tc .vmem S128x1024 .bf16) (arg19 : Memref sig .tc .vmem S128x128 .f32) (arg20
    : Memref sig .tc .vmem S8x1024 .f32) (arg23 : Memref sig .tc .vmem S1024x2048 .fp8e5m2) (arg24 : Memref sig
    .tc .vmem S2x128x128 .f32) (arg25 : Memref sig .tc .vmem S2x128x128 .f32) (x0 : Vec Ideal S1x2048x1024
    .fp8e5m2) (x1 : Vec Ideal S8x2048 .f32) (x2 : Vec Ideal S1x2048x1024 .fp8e4m3) (x3 : Vec Ideal S8x2048 .f32)
    (x4 : Vec Ideal S1x16x8x2048 .fp8e4m3) (x5 : Vec Ideal S8x2048 .f32) (x6 : Vec Ideal S16x8x64 .fp8e4m3) (x7
    : Vec Ideal S16 .f32) (x8 : Vec Ideal S8x16x128 .fp8e4m3) (x9 : Vec Ideal S8 .f32) (LS0 : List (View.Piece
    (Elt Ideal) S256x256 .fp8e4m3)) (LS1 : List (View.Piece (Elt Ideal) S128x256 .fp8e4m3)) (LS2 : List
    (View.Piece (Elt Ideal) S128x1024 .bf16)) (LS3 : List (View.Piece (Elt Ideal) S128x128 .f32)) (LS4 : List
    (View.Piece (Elt Ideal) S8x1024 .f32))
    (h0 : View.canon LS0 = permW) (h1 : View.canon LS1 = ltW (valsOf i x0 x1 x2 x3 x4 x5 x6 x7 x8 x9))
    (h2 : View.canon LS2 = rbW (valsOf i x0 x1 x2 x3 x4 x5 x6 x7 x8 x9))
    (h3 : View.canon LS3 = lscW (valsOf i x0 x1 x2 x3 x4 x5 x6 x7 x8 x9))
    (h4 : View.canon LS4 = rsrW (valsOf i x0 x1 x2 x3 x4 x5 x6 x7 x8 x9)) :
    Reads (insBuilt i arg2 harg2 arg3 harg3 arg4 harg4 arg5 harg5 arg6 harg6 arg7 harg7 arg16 arg17 arg18 arg19 arg20 arg23 arg24 arg25 x0 x1 x2 x3 x4 x5 LS0 LS1 LS2 LS3 LS4)
      (valsOf i x0 x1 x2 x3 x4 x5 x6 x7 x8 x9) where
  row := rfl
  dy := read_held arg2 harg2 x0
  dys := read_held arg3 harg3 x1
  x := read_held arg4 harg4 x2
  xs := read_held arg5 harg5 x3
  h := read_held arg6 harg6 x4
  hs := read_held arg7 harg7 x5
  perm := read_stored arg16 LS0 _ h0
  lt := read_stored arg17 LS1 _ h1
  rb := read_stored arg18 LS2 _ h2
  lsc := read_stored arg19 LS3 _ h3
  rsr := read_stored arg20 LS4 _ h4

end Cert.KernelIdeal.Model

end
-- ==== Proof.Blocks.lean ====
/-
  The blocks a grid point reads, as cells of the kernel's arguments: point `t` works on batch row `t`.
-/
module

public import proofs.«01_k».proof.Proof.Point
public import proofs.«01_k».proof.Proof.Gen.KernelIdeal.Frame
public import Idealize.ShloMosaic.Lib.Pipeline.ValueKit

@[expose] public section

set_option maxRecDepth 16384

noncomputable section

namespace Cert.KernelIdeal.Model

open Idealize.ShloMosaic Idealize.SL.Sem Idealize.ShloMosaic.TcCoe Cert.KernelIdeal Cert.KernelIdeal.Gen

/-- The block index of every window at every point. -/
theorem idx : ∀ t : Fin cfg0.N, (grid0.coords t 0).val = t.val ∧ win0_0.index t = ![t.val, 0, 0] ∧ win0_1.index t = ![t.val / 8, 0]
    ∧ win0_2.index t = ![t.val, 0, 0] ∧ win0_3.index t = ![t.val / 8, 0] ∧ win0_4.index t = ![t.val, 0, 0, 0]
    ∧ win0_5.index t = ![t.val / 8, 0] ∧ win0_6.index t = ![0, 0, 0] ∧ win0_7.index t = ![0] ∧ win0_8.index t = ![0, 0, 0]
    ∧ win0_9.index t = ![0] ∧ win0_10.index t = ![t.val, 0, 0] ∧ win0_11.index t = ![t.val, 0, 0, 0]
    ∧ win0_12.index t = ![0, 0, 0] ∧ win0_13.index t = ![0, 0, 0] :=
  (by decide +kernel : ∀ t : Fin grid0.N, _)

variable (m : (ℓ : Loc nD τ sig) → Buf (Elt Ideal) ℓ) (c : Dev nD)

/-- The blocks point `t` reads. -/
def vals (t : Fin cfg0.N) : Vals := valsOf (grid0.coords t) (iblk m c 0 t) (iblk m c 1 t) (iblk m c 2 t) (iblk m c 3 t) (iblk m c 4 t)
  (iblk m c 5 t) (iblk m c 6 t) (iblk m c 7 t) (iblk m c 8 t) (iblk m c 9 t)

/-- The batch row of a point. -/
def brow (t : Fin cfg0.N) : Fin 32 := ⟨t.val, t.isLt⟩

theorem vals_b (t : Fin cfg0.N) : ((vals m c t).b : Fin 8).val = t.val % 8 := by
  show (grid0.coords t 0).val % 8 = _
  rw [(idx t).1]

theorem vals_dy (t : Fin cfg0.N) (s : Fin 2048) (n : Fin 1024) :
    (vals m c t).dy (ix3 0 s n) = m ((c : Thread nD τ).loc main_arg0) (ix3 (brow t) s n) := by
  show iblk m c 0 t (ix3 0 s n) = _
  unfold brow
  blk_ext [iblk, V, idx t]

theorem vals_dys (t : Fin cfg0.N) (s : Fin 2048) :
    (vals m c t).dys (ix2 (vals m c t).b s) = m ((c : Thread nD τ).loc main_arg1) (ix2 (brow t) s) := by
  have hb := vals_b m c t
  generalize (vals m c t).b = b at hb
  show iblk m c 1 t (ix2 b s) = _
  unfold brow
  blk_ext [iblk, V, idx t]

theorem vals_x (t : Fin cfg0.N) (s : Fin 2048) (n : Fin 1024) :
    (vals m c t).x (ix3 0 s n) = m ((c : Thread nD τ).loc main_arg2) (ix3 (brow t) s n) := by
  show iblk m c 2 t (ix3 0 s n) = _
  unfold brow
  blk_ext [iblk, V, idx t]

theorem vals_xs (t : Fin cfg0.N) (s : Fin 2048) :
    (vals m c t).xs (ix2 (vals m c t).b s) = m ((c : Thread nD τ).loc main_arg3) (ix2 (brow t) s) := by
  have hb := vals_b m c t
  generalize (vals m c t).b = b at hb
  show iblk m c 3 t (ix2 b s) = _
  unfold brow
  blk_ext [iblk, V, idx t]

theorem vals_hs (t : Fin cfg0.N) (s : Fin 2048) :
    (vals m c t).hs (ix2 (vals m c t).b s) = m ((c : Thread nD τ).loc main_arg5) (ix2 (brow t) s) := by
  have hb := vals_b m c t
  generalize (vals m c t).b = b at hb
  show iblk m c 5 t (ix2 b s) = _
  unfold brow
  blk_ext [iblk, V, idx t]

theorem vals_r (t : Fin cfg0.N) (k : Fin 16) (q : Fin 8) (p : Fin 64) :
    (vals m c t).r (ix3 k q p) = m ((c : Thread nD τ).loc main_arg6) (ix3 k q p) := by
  show iblk m c 6 t (ix3 k q p) = _
  blk_ext [iblk, V, idx t]

theorem vals_rs (t : Fin cfg0.N) (k : Fin 16) : (vals m c t).rs (ix1 k) = m ((c : Thread nD τ).loc main_arg7) (ix1 k) := by
  show iblk m c 7 t (ix1 k) = _
  blk_ext [iblk, V, idx t]

theorem vals_ls (t : Fin cfg0.N) (q : Fin 8) : (vals m c t).ls (ix1 q) = m ((c : Thread nD τ).loc main_arg9) (ix1 q) := by
  show iblk m c 9 t (ix1 q) = _
  blk_ext [iblk, V, idx t]

/-- The kernel reads `h` with its last three axes turned. -/
theorem V_h (i : S32x16x8x2048.Idx) : V m c main_v0 i = m ((c : Thread nD τ).loc main_arg4) (ix4 (i 0) (i 3) (i 1) (i 2)) := by
  have e : V m c main_v0 = transpose S32x16x8x2048 [0, 2, 3, 1] (m ((c : Thread nD τ).loc main_arg4)) transposes_S32x2048x16x8_S32x16x8x2048_0_2_3_1 := by
    unfold V V0 hostOps0
    simp only [List.flatten_cons, List.flatten_nil, List.cons_append, List.nil_append, StableHlo.after_cons, StableHlo.after_nil]
    after_results_simp
  rw [e]
  pointwise

/-- The kernel reads `l` with its last two axes swapped. -/
theorem V_l (i : S8x16x128.Idx) : V m c main_v1 i = m ((c : Thread nD τ).loc main_arg8) (ix3 (i 0) (i 2) (i 1)) := by
  have e : V m c main_v1 = transpose S8x16x128 [0, 2, 1] (m ((c : Thread nD τ).loc main_arg8)) transposes_S8x128x16_S8x16x128_0_2_1 := by
    unfold V V0 hostOps0
    simp only [List.flatten_cons, List.flatten_nil, List.cons_append, List.nil_append, StableHlo.after_cons, StableHlo.after_nil]
    after_results_simp
  rw [e]
  pointwise

theorem vals_h (t : Fin cfg0.N) (k : Fin 16) (q : Fin 8) (s : Fin 2048) :
    (vals m c t).h (ix4 0 k q s) = m ((c : Thread nD τ).loc main_arg4) (ix4 (brow t) s k q) := by
  show iblk m c 4 t (ix4 0 k q s) = _
  refine (V_h m c (((cfg0.win 4).blk t).view.emb (ix4 0 k q s))).trans ?_
  unfold brow
  blk_ext [iblk, idx t]

theorem vals_l (t : Fin cfg0.N) (q : Fin 8) (k : Fin 16) (s : Fin 128) :
    (vals m c t).l (ix3 q k s) = m ((c : Thread nD τ).loc main_arg8) (ix3 q s k) := by
  show iblk m c 8 t (ix3 q k s) = _
  refine (V_l m c (((cfg0.win 8).blk t).view.emb (ix3 q k s))).trans ?_
  blk_ext [iblk, idx t]

end Cert.KernelIdeal.Model
-- ==== Proof.CaseA.lean ====
/-
  The run of the first point of a round: it builds the weights and clears the accumulators. Its pieces are the model's.
-/
module

public import proofs.«01_k».proof.Proof.ModelIns
public import proofs.«01_k».proof.Proof.Gen.KernelIdeal.Frame.RunA

@[expose] public section

set_option maxRecDepth 16384

noncomputable section

namespace Cert.KernelIdeal.Model

open Idealize.ShloMosaic Idealize.SL.Sem Cert.KernelIdeal.Gen

variable {F : FTy → Type} [FloatOps F]

-- the vector operations and the loads are compared by their arguments only
attribute [local irreducible] View.readAt View.readCov Memref.IsWhole.unread shapeCast extractStridedSlice truncf extf mulf addf
  broadcastTo concatenate transpose constant FloatOps.matmul Rect.unit k0_off1
  kernelRun0_A.sl.HS0_1 kernelRun0_A.sl.HS1_2 kernelRun0_A.sl.HS2_1 kernelRun0_A.sl.HS3_1 kernelRun0_A.sl.HS4_1
  kernelRun0_A.sl.HS5_1 kernelRun0_A.sl.HS6_1

set_option maxHeartbeats 4000000

variable
  (c : Dev nD) (i : grid0.Coords) (arg2 : Memref sig .tc .vmem S1x2048x1024 .fp8e5m2) (harg2 : arg2.IsWhole) (arg3 :
  Memref sig .tc .vmem S8x2048 .f32) (harg3 : arg3.IsWhole) (arg4 : Memref sig .tc .vmem S1x2048x1024 .fp8e4m3)
  (harg4 : arg4.IsWhole) (arg5 : Memref sig .tc .vmem S8x2048 .f32) (harg5 : arg5.IsWhole) (arg6 : Memref sig .tc
  .vmem S1x16x8x2048 .fp8e4m3) (harg6 : arg6.IsWhole) (arg7 : Memref sig .tc .vmem S8x2048 .f32) (harg7 :
  arg7.IsWhole) (arg8 : Memref sig .tc .vmem S16x8x64 .fp8e4m3) (harg8 : arg8.IsWhole) (arg9 : Memref sig .tc .smem
  S16 .f32) (harg9 : arg9.IsWhole) (arg10 : Memref sig .tc .vmem S8x16x128 .fp8e4m3) (harg10 : arg10.IsWhole) (arg11
  : Memref sig .tc .smem S8 .f32) (harg11 : arg11.IsWhole) (arg12 : Memref sig .tc .vmem S1x2048x1024 .bf16) (harg12
  : arg12.IsWhole) (arg13 : Memref sig .tc .vmem S1x16x8x2048 .bf16) (harg13 : arg13.IsWhole) (arg14 : Memref sig
  .tc .vmem S8x16x128 .f32) (harg14 : arg14.IsWhole) (arg15 : Memref sig .tc .vmem S16x8x64 .f32) (harg15 :
  arg15.IsWhole) (arg16 : Memref sig .tc .vmem S256x256 .fp8e4m3) (harg16 : arg16.IsWhole) (arg17 : Memref sig .tc
  .vmem S128x256 .fp8e4m3) (harg17 : arg17.IsWhole) (arg18 : Memref sig .tc .vmem S128x1024 .bf16) (harg18 :
  arg18.IsWhole) (arg19 : Memref sig .tc .vmem S128x128 .f32) (harg19 : arg19.IsWhole) (arg20 : Memref sig .tc .vmem
  S8x1024 .f32) (harg20 : arg20.IsWhole) (arg21 : Memref sig .tc .vmem S128x256 .f32) (harg21 : arg21.IsWhole)
  (arg22 : Memref sig .tc .vmem S128x256 .f32) (harg22 : arg22.IsWhole) (arg23 : Memref sig .tc .vmem S1024x2048
  .fp8e5m2) (harg23 : arg23.IsWhole) (arg24 : Memref sig .tc .vmem S2x128x128 .f32) (harg24 : arg24.IsWhole) (arg25
  : Memref sig .tc .vmem S2x128x128 .f32) (harg25 : arg25.IsWhole)
variable (hc0 : cond0_0 i) (hc1 : ¬cond0_1 i)
variable
  (x0 : Vec F S1x2048x1024 .fp8e5m2) (x1 : Vec F S8x2048 .f32) (x2 : Vec F S1x2048x1024 .fp8e4m3) (x3 : Vec F
  S8x2048 .f32) (x4 : Vec F S1x16x8x2048 .fp8e4m3) (x5 : Vec F S8x2048 .f32) (x6 : Vec F S16x8x64 .fp8e4m3) (x7 :
  Vec F S16 .f32) (x8 : Vec F S8x16x128 .fp8e4m3) (x9 : Vec F S8 .f32)

/-- The stores of `dx`. -/
theorem runA_dx :
    (kernelRun0_A
      c i arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18
      arg19 harg19 arg20 harg20 arg21 harg21 arg22 harg22 arg23 harg23 arg24 harg24 arg25 harg25 hc0 hc1 x0 x1
      x2 x3 x4 x5 x6 x7 x8 x9).1 =
    dxPieces (insBuilt i arg2 harg2 arg3 harg3 arg4 harg4 arg5 harg5 arg6 harg6 arg7 harg7 arg16 arg17 arg18 arg19 arg20
      arg23 arg24 arg25 x0 x1 x2 x3 x4 x5
      kernelRun0_A.sl.HS0_1
      (kernelRun0_A.sl.HS1_2 c arg10 harg10 x8)
      (kernelRun0_A.sl.HS2_1 c arg8 harg8 x6)
      (kernelRun0_A.sl.HS3_1 c arg11 harg11 x9)
      (kernelRun0_A.sl.HS4_1 c arg9 harg9 x7)) 8 := (rfl)

/-- The stores of `dh`. -/
theorem runA_dh :
    (kernelRun0_A
      c i arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18
      arg19 harg19 arg20 harg20 arg21 harg21 arg22 harg22 arg23 harg23 arg24 harg24 arg25 harg25 hc0 hc1 x0 x1
      x2 x3 x4 x5 x6 x7 x8 x9).2.1 =
    dhPieces (insBuilt i arg2 harg2 arg3 harg3 arg4 harg4 arg5 harg5 arg6 harg6 arg7 harg7 arg16 arg17 arg18 arg19 arg20
      arg23 arg24 arg25 x0 x1 x2 x3 x4 x5
      kernelRun0_A.sl.HS0_1
      (kernelRun0_A.sl.HS1_2 c arg10 harg10 x8)
      (kernelRun0_A.sl.HS2_1 c arg8 harg8 x6)
      (kernelRun0_A.sl.HS3_1 c arg11 harg11 x9)
      (kernelRun0_A.sl.HS4_1 c arg9 harg9 x7)) 8 := (rfl)

/-- The stores of the accumulated gradient of `l`. -/
theorem runA_dlAcc :
    (kernelRun0_A
      c i arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18
      arg19 harg19 arg20 harg20 arg21 harg21 arg22 harg22 arg23 harg23 arg24 harg24 arg25 harg25 hc0 hc1 x0 x1
      x2 x3 x4 x5 x6 x7 x8 x9).2.2.2.2.2.2.2.2.2.1 =
    accOver arg21 kernelRun0_A.sl.HS5_1 (dlSum (insBuilt i arg2 harg2 arg3 harg3 arg4 harg4 arg5 harg5 arg6 harg6 arg7 harg7 arg16 arg17 arg18 arg19 arg20
      arg23 arg24 arg25 x0 x1 x2 x3 x4 x5
      kernelRun0_A.sl.HS0_1
      (kernelRun0_A.sl.HS1_2 c arg10 harg10 x8)
      (kernelRun0_A.sl.HS2_1 c arg8 harg8 x6)
      (kernelRun0_A.sl.HS3_1 c arg11 harg11 x9)
      (kernelRun0_A.sl.HS4_1 c arg9 harg9 x7))) 4 (Nat.le_refl 4) := (rfl)

/-- The stores of the accumulated gradient of `r`. -/
theorem runA_drAcc :
    (kernelRun0_A
      c i arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18
      arg19 harg19 arg20 harg20 arg21 harg21 arg22 harg22 arg23 harg23 arg24 harg24 arg25 harg25 hc0 hc1 x0 x1
      x2 x3 x4 x5 x6 x7 x8 x9).2.2.2.2.2.2.2.2.2.2.1 =
    accOver arg22 kernelRun0_A.sl.HS6_1 (drSum (insBuilt i arg2 harg2 arg3 harg3 arg4 harg4 arg5 harg5 arg6 harg6 arg7 harg7 arg16 arg17 arg18 arg19 arg20
      arg23 arg24 arg25 x0 x1 x2 x3 x4 x5
      kernelRun0_A.sl.HS0_1
      (kernelRun0_A.sl.HS1_2 c arg10 harg10 x8)
      (kernelRun0_A.sl.HS2_1 c arg8 harg8 x6)
      (kernelRun0_A.sl.HS3_1 c arg11 harg11 x9)
      (kernelRun0_A.sl.HS4_1 c arg9 harg9 x7))) 4 (Nat.le_refl 4) := (rfl)

end Cert.KernelIdeal.Model

end
-- ==== Proof.Words.lean ====
/-
  The integer words that the body builds its weights from: floor division and remainder as the print spells them, of small numbers.
-/
module

public import proofs.«01_k».proof.Proof.Math

@[expose] public section

set_option maxRecDepth 16384

noncomputable section

namespace Cert.KernelIdeal.Model

open Idealize.ShloMosaic Idealize.SL.Sem Idealize.ShloMosaic.TcCoe Cert.KernelIdeal.Gen

/-- Floor division as the print spells it: the quotient towards zero, less one where the signs differ and the remainder is not zero. -/
abbrev wDiv (d x : BitVec 32) : BitVec 32 :=
  Scalar.select
    (IntOp.andi
      (IntOp.cmpi CmpIPredicate.ne
        (IntOp.subi (BitVec.setWidth 32 (IntOp.cmpi CmpIPredicate.sgt x 0#32)) (BitVec.setWidth 32 (IntOp.cmpi CmpIPredicate.slt x 0#32)))
        (Scalar.subi (Scalar.extui (Scalar.cmpi CmpIPredicate.sgt d 0#32)) (Scalar.extui (Scalar.cmpi CmpIPredicate.slt d 0#32))))
      (IntOp.cmpi CmpIPredicate.ne (IntOp.remsi ArithUnit.vector x d) 0#32))
    (IntOp.subi (IntOp.divsi ArithUnit.vector x d) 1#32) (IntOp.divsi ArithUnit.vector x d)

/-- The remainder of the same sign as the divisor, as the print spells it. -/
abbrev wMod (d x : BitVec 32) : BitVec 32 :=
  Scalar.select
    (IntOp.andi
      (IntOp.xori
        (IntOp.cmpi CmpIPredicate.slt (IntOp.remsi ArithUnit.vector x (Scalar.select (Scalar.cmpi CmpIPredicate.eq d 0#32) 1#32 d)) 0#32)
        (Scalar.cmpi CmpIPredicate.slt (Scalar.select (Scalar.cmpi CmpIPredicate.eq d 0#32) 1#32 d) 0#32))
      (IntOp.cmpi CmpIPredicate.ne (IntOp.remsi ArithUnit.vector x (Scalar.select (Scalar.cmpi CmpIPredicate.eq d 0#32) 1#32 d)) 0#32))
    (IntOp.addi (IntOp.remsi ArithUnit.vector x (Scalar.select (Scalar.cmpi CmpIPredicate.eq d 0#32) 1#32 d))
      (Scalar.select (Scalar.cmpi CmpIPredicate.eq d 0#32) 1#32 d))
    (IntOp.remsi ArithUnit.vector x (Scalar.select (Scalar.cmpi CmpIPredicate.eq d 0#32) 1#32 d))

theorem wDiv8 : ∀ n : Fin 256, wDiv 8#32 (BitVec.ofNat 32 n.val) = BitVec.ofNat 32 (n.val / 8) := by decide +kernel
theorem wDiv16 : ∀ n : Fin 128, wDiv 16#32 (BitVec.ofNat 32 n.val) = BitVec.ofNat 32 (n.val / 16) := by decide +kernel
theorem wDiv32 : ∀ n : Fin 256, wDiv 32#32 (BitVec.ofNat 32 n.val) = BitVec.ofNat 32 (n.val / 32) := by decide +kernel
theorem wDiv64 : ∀ n : Fin 1024, wDiv 64#32 (BitVec.ofNat 32 n.val) = BitVec.ofNat 32 (n.val / 64) := by decide +kernel
theorem wMod2 : ∀ n : Fin 128, wMod 2#32 (BitVec.ofNat 32 n.val) = BitVec.ofNat 32 (n.val % 2) := by decide +kernel
theorem wMod8 : ∀ n : Fin 256, wMod 8#32 (BitVec.ofNat 32 n.val) = BitVec.ofNat 32 (n.val % 8) := by decide +kernel
theorem wMod32 : ∀ n : Fin 256, wMod 32#32 (BitVec.ofNat 32 n.val) = BitVec.ofNat 32 (n.val % 32) := by decide +kernel
theorem wMod64 : ∀ n : Fin 1024, wMod 64#32 (BitVec.ofNat 32 n.val) = BitVec.ofNat 32 (n.val % 64) := by decide +kernel

/-- The same, of a bare number. -/
theorem wDiv8' {n : ℕ} (h : n < 256) : wDiv 8#32 (BitVec.ofNat 32 n) = BitVec.ofNat 32 (n / 8) := wDiv8 ⟨n, h⟩

/-- The same, of a bare number. -/
theorem wMod2' {n : ℕ} (h : n < 128) : wMod 2#32 (BitVec.ofNat 32 n) = BitVec.ofNat 32 (n % 2) := wMod2 ⟨n, h⟩

/-- A chain of eight choices by a number below eight. -/
theorem pick8 {α : Type} (f : Fin 8 → α) (q : Fin 8) (z : α) :
    Scalar.select (IntOp.cmpi CmpIPredicate.eq (BitVec.ofNat 32 q.val) 7#32) (f 7)
      (Scalar.select (IntOp.cmpi CmpIPredicate.eq (BitVec.ofNat 32 q.val) 6#32) (f 6)
      (Scalar.select (IntOp.cmpi CmpIPredicate.eq (BitVec.ofNat 32 q.val) 5#32) (f 5)
      (Scalar.select (IntOp.cmpi CmpIPredicate.eq (BitVec.ofNat 32 q.val) 4#32) (f 4)
      (Scalar.select (IntOp.cmpi CmpIPredicate.eq (BitVec.ofNat 32 q.val) 3#32) (f 3)
      (Scalar.select (IntOp.cmpi CmpIPredicate.eq (BitVec.ofNat 32 q.val) 2#32) (f 2)
      (Scalar.select (IntOp.cmpi CmpIPredicate.eq (BitVec.ofNat 32 q.val) 1#32) (f 1)
      (Scalar.select (IntOp.cmpi CmpIPredicate.eq (BitVec.ofNat 32 q.val) 0#32) (f 0) z))))))) = f q := by
  fin_cases q <;> rfl

/-- A chain of sixteen choices by a number below sixteen. -/
theorem pick16 {α : Type} (f : Fin 16 → α) (q : Fin 16) (z : α) :
    Scalar.select (IntOp.cmpi CmpIPredicate.eq (BitVec.ofNat 32 q.val) 15#32) (f 15)
    (Scalar.select (IntOp.cmpi CmpIPredicate.eq (BitVec.ofNat 32 q.val) 14#32) (f 14)
    (Scalar.select (IntOp.cmpi CmpIPredicate.eq (BitVec.ofNat 32 q.val) 13#32) (f 13)
    (Scalar.select (IntOp.cmpi CmpIPredicate.eq (BitVec.ofNat 32 q.val) 12#32) (f 12)
    (Scalar.select (IntOp.cmpi CmpIPredicate.eq (BitVec.ofNat 32 q.val) 11#32) (f 11)
    (Scalar.select (IntOp.cmpi CmpIPredicate.eq (BitVec.ofNat 32 q.val) 10#32) (f 10)
    (Scalar.select (IntOp.cmpi CmpIPredicate.eq (BitVec.ofNat 32 q.val) 9#32) (f 9)
    (Scalar.select (IntOp.cmpi CmpIPredicate.eq (BitVec.ofNat 32 q.val) 8#32) (f 8)
    (Scalar.select (IntOp.cmpi CmpIPredicate.eq (BitVec.ofNat 32 q.val) 7#32) (f 7)
    (Scalar.select (IntOp.cmpi CmpIPredicate.eq (BitVec.ofNat 32 q.val) 6#32) (f 6)
    (Scalar.select (IntOp.cmpi CmpIPredicate.eq (BitVec.ofNat 32 q.val) 5#32) (f 5)
    (Scalar.select (IntOp.cmpi CmpIPredicate.eq (BitVec.ofNat 32 q.val) 4#32) (f 4)
    (Scalar.select (IntOp.cmpi CmpIPredicate.eq (BitVec.ofNat 32 q.val) 3#32) (f 3)
    (Scalar.select (IntOp.cmpi CmpIPredicate.eq (BitVec.ofNat 32 q.val) 2#32) (f 2)
    (Scalar.select (IntOp.cmpi CmpIPredicate.eq (BitVec.ofNat 32 q.val) 1#32) (f 1)
    (Scalar.select (IntOp.cmpi CmpIPredicate.eq (BitVec.ofNat 32 q.val) 0#32) (f 0) z))))))))))))))) = f q := by
  fin_cases q <;> rfl

/-- Words of small numbers compare as the numbers. -/
theorem cmpi_eq_ofNat {a b : ℕ} (ha : a < 1024) (hb : b < 1024) :
    IntOp.cmpi CmpIPredicate.eq (BitVec.ofNat 32 a) (BitVec.ofNat 32 b) = if a = b then 1#1 else 0#1 := by
  have h : (BitVec.ofNat 32 a == BitVec.ofNat 32 b) = decide (a = b) := by
    by_cases e : a = b
    · subst e; simp
    · have : BitVec.ofNat 32 a ≠ BitVec.ofNat 32 b := by
        intro h
        have := congrArg BitVec.toNat h
        simp only [BitVec.toNat_ofNat] at this
        omega
      simp [this, e]
  show BitVec.ofBool (BitVec.ofNat 32 a == BitVec.ofNat 32 b) = _
  rw [h]
  by_cases e : a = b <;> simp [e]

/-- A choice by comparing small numbers. -/
theorem select_eq_ofNat {α : Type} {a b : ℕ} (ha : a < 1024) (hb : b < 1024) (x y : α) :
    Scalar.select (IntOp.cmpi CmpIPredicate.eq (BitVec.ofNat 32 a) (BitVec.ofNat 32 b)) x y = if a = b then x else y := by
  rw [cmpi_eq_ofNat ha hb]
  by_cases e : a = b <;> simp [e, Scalar.select]

/-- Both of two one-bit words. -/
theorem andi_ite (p q : Prop) [Decidable p] [Decidable q] :
    IntOp.andi (if p then 1#1 else 0#1) (if q then 1#1 else 0#1) = if p ∧ q then 1#1 else 0#1 := by
  by_cases h1 : p <;> by_cases h2 : q <;> simp [h1, h2, IntOp.andi]

/-- The number of a one-bit word. -/
theorem sitofp_bit (p : Prop) [Decidable p] :
    FloatOps.sitofp (F := Ideal) FTy.f32 (BitVec.setWidth 32 (if p then 1#1 else 0#1)) = if p then (1 : EReal) else 0 := by
  by_cases h : p
  · simp only [h, if_true]
    show (((1#32 : BitVec 32).toInt : ℝ) : EReal) = 1
    simp
  · simp only [h, if_false]
    show (((0#32 : BitVec 32).toInt : ℝ) : EReal) = 0
    simp

end Cert.KernelIdeal.Model

end
-- ==== Proof.WPerm.lean ====
/-
  The weights that the body builds at the first point, read at an index.
-/
module

public import proofs.«01_k».proof.Proof.Gen.KernelIdeal.Frame.RunA
public import proofs.«01_k».proof.Proof.Words

@[expose] public section

set_option maxRecDepth 16384

noncomputable section

namespace Cert.KernelIdeal.Model

open Idealize.ShloMosaic Idealize.SL.Sem Idealize.ShloMosaic.TcCoe Cert.KernelIdeal.Gen

/-- A load of a whole block reads the block. -/
theorem read_whole3 {a b c : ℕ} {e : EltTy} {sp : Space} (M : Memref sig .tc sp ⟨3, ![a, b, c]⟩ e) (hM : M.IsWhole) (x : Vec Ideal ⟨3, ![a, b, c]⟩ e)
    (inb : ∀ k, (![0, 0, 0] : Fin 3 → ℕ) k + (![a, b, c] : Fin 3 → ℕ) k ≤ (⟨3, ![a, b, c]⟩ : Shape).size k) :
    View.readAt (Elt Ideal) M.view (Rect.unit (s := ⟨3, ![a, b, c]⟩) ![0, 0, 0] ![a, b, c] inb).toLoadRect (hM.unread x) = x := by
  funext y
  rw [View.readAt_apply, Memref.IsWhole.read_unread]
  congr 1
  funext k
  apply Fin.ext
  fin_cases k <;> simp [LoadRect.idx, Rect.unit]

/-- A load of one number of a table reads the number. -/
theorem read_one {a n : ℕ} {e : EltTy} {sp : Space} (M : Memref sig .tc sp ⟨1, ![a]⟩ e) (hM : M.IsWhole) (x : Vec Ideal ⟨1, ![a]⟩ e)
    (inb : ∀ k, (![n] : Fin 1 → ℕ) k + (![1] : Fin 1 → ℕ) k ≤ (⟨1, ![a]⟩ : Shape).size k) (hn : n < a) (hpos) :
    View.readAt (Elt Ideal) M.view (Rect.unit (s := ⟨1, ![a]⟩) ![n] ![1] inb).toLoadRect (hM.unread x) (Shape.Idx.first hpos) = x (ix1 ⟨n, hn⟩) := by
  rw [View.readAt_apply, Memref.IsWhole.read_unread]
  congr 1
  funext k
  apply Fin.ext
  fin_cases k
  simp [LoadRect.idx, Rect.unit, Shape.Idx.first]

/-- The permutation. -/
theorem perm_apply (r n : Fin 256) :
    k0_pay3 (F := Ideal) kernelRun0_A.sl.v3332 kernelRun0_A.sl.v3333
        (cmpi CmpIPredicate.eq kernelRun0_A.sl.v3349 kernelRun0_A.sl.v3373)
        (32#32) (divsi kernelRun0_A.sl.v3332 kernelRun0_A.sl.v3336) 0#32 (ix2 r n) = permW (ix2 r n) := by
  pointwise [k0_pay3, kernelRun0_A.sl.v3300, kernelRun0_A.sl.v3305, kernelRun0_A.sl.v3310, kernelRun0_A.sl.v3315, kernelRun0_A.sl.v3320, kernelRun0_A.sl.v3325, kernelRun0_A.sl.v3332, kernelRun0_A.sl.v3333, kernelRun0_A.sl.v3336, kernelRun0_A.sl.v3338, kernelRun0_A.sl.v3339, kernelRun0_A.sl.v3341, kernelRun0_A.sl.v3343, kernelRun0_A.sl.v3345, kernelRun0_A.sl.v3348, kernelRun0_A.sl.v3349, kernelRun0_A.sl.v3350, kernelRun0_A.sl.v3354, kernelRun0_A.sl.v3357, kernelRun0_A.sl.v3364, kernelRun0_A.sl.v3365, kernelRun0_A.sl.v3369, kernelRun0_A.sl.v3372, kernelRun0_A.sl.v3373]
  show FloatOps.sitofp (F := Ideal) FTy.f32 (BitVec.setWidth 32 (IntOp.andi
    (IntOp.cmpi .eq (wMod 32#32 (BitVec.ofNat 32 r.val)) (wDiv 8#32 (BitVec.ofNat 32 n.val)))
    (IntOp.cmpi .eq (wDiv 32#32 (BitVec.ofNat 32 r.val)) (wMod 8#32 (BitVec.ofNat 32 n.val))))) = _
  rw [wMod32, wDiv8, wDiv32, wMod8, cmpi_eq_ofNat (by omega) (by omega), cmpi_eq_ofNat (by omega) (by omega)]
  rw [andi_ite, sitofp_bit]
  exact if_congr (by show _ ↔ n.val = r.val % 32 * 8 + r.val / 32; omega) rfl rfl

/-- The right half of the weights of `l`. -/
theorem lt1_apply (x8 : Vec Ideal S8x16x128 .fp8e4m3) (r n : Fin 128) :
    k0_pay10 (F := Ideal) k0_pay4 (k0_pay5 x8) (ix2 r n) =
      if r.val / 16 % 2 = 1 then x8 (ix3 ⟨r.val / 16, by omega⟩ ⟨r.val % 16, by omega⟩ n) else (0 : EReal) := by
  pointwise [k0_pay10, k0_pay5, k0_pay4]
  show Scalar.select (IntOp.cmpi .eq (wMod 2#32 (wDiv 16#32 (BitVec.ofNat 32 r.val))) (BitVec.ofNat 32 1)) _ _ = _
  rw [wDiv16, wMod2' (by omega), select_eq_ofNat (by omega) (by omega)]

/-- The left half of the weights of `l`. -/
theorem lt0_apply (x8 : Vec Ideal S8x16x128 .fp8e4m3) (r n : Fin 128) :
    k0_pay9 (F := Ideal) (k0_pay5 x8) k0_pay6 k0_pay7 k0_pay8 (ix2 r n) =
      if r.val / 16 % 2 = 0 then x8 (ix3 ⟨r.val / 16, by omega⟩ ⟨r.val % 16, by omega⟩ n) else (0 : EReal) := by
  pointwise [k0_pay9, k0_pay6, k0_pay7, k0_pay8, k0_pay5, k0_pay4]
  show Scalar.select (IntOp.cmpi .eq (wMod 2#32 (wDiv 16#32 (BitVec.ofNat 32 r.val))) (BitVec.ofNat 32 0)) _ _ = _
  rw [wDiv16, wMod2' (by omega), select_eq_ofNat (by omega) (by omega)]

/-- The weights of `r`. -/
theorem rb_apply (x6 : Vec Ideal S16x8x64 .fp8e4m3) (r : Fin 128) (n : Fin 1024) :
    k0_pay14 (F := Ideal) (k0_pay12 (k0_pay11 x6) kernelRun0_A.sl.v3504 kernelRun0_A.sl.v3505 64#32 0#32) k0_pay13 kernelRun0_A.sl.v3552 64#32 (ix2 r n) =
      if r.val / 8 = n.val / 64 then x6 (ix3 ⟨r.val / 8, by omega⟩ ⟨r.val % 8, by omega⟩ ⟨n.val % 64, by omega⟩) else (0 : EReal) := by
  pointwise [k0_pay14, k0_pay13, k0_pay12, k0_pay11, kernelRun0_A.sl.v3504, kernelRun0_A.sl.v3505, kernelRun0_A.sl.v3552]
  show Scalar.select (IntOp.cmpi .eq (wDiv 8#32 (BitVec.ofNat 32 r.val)) (wDiv 64#32 (BitVec.ofNat 32 n.val)))
    (∑ p : Fin 64, x6 (ix3 ⟨r.val / 8, _⟩ ⟨r.val % 8, _⟩ p) * FloatOps.sitofp (F := Ideal) FTy.f32 (BitVec.setWidth 32
      (IntOp.cmpi .eq (BitVec.ofNat 32 p.val) (wMod 64#32 (BitVec.ofNat 32 n.val))))) _ = _
  rw [wDiv8' (by omega), wDiv64, wMod64, select_eq_ofNat (by omega) (by omega)]
  refine if_congr Iff.rfl ?_ rfl
  rw [Finset.sum_eq_single (⟨n.val % 64, by omega⟩ : Fin 64)]
  · rw [cmpi_eq_ofNat (by omega) (by omega), sitofp_bit, if_pos rfl]
    exact mul_one _
  · intro p _ hp
    rw [cmpi_eq_ofNat (by omega) (by omega), sitofp_bit, if_neg (fun e => hp (Fin.ext e))]
    exact mul_zero _
  · exact fun h => absurd (Finset.mem_univ _) h

/-- The scale of `l` along the rows. -/
theorem lsc_apply (c : Dev nD) (arg11 : Memref sig .tc .smem S8 .f32) (harg11 : arg11.IsWhole) (x9 : Vec Ideal S8 .f32) (r n : Fin 128) :
    k0_pay20 (F := Ideal) kernelRun0_A.sl.r_9 (kernelRun0_A.sl.r_10 c arg11 harg11 x9) kernelRun0_A.sl.r_11
        (kernelRun0_A.sl.r_12 c arg11 harg11 x9) (kernelRun0_A.sl.r_13 c arg11 harg11 x9) (ix2 r n) = x9 (ix1 ⟨r.val / 16, by omega⟩) := by
  pointwise [k0_pay20, k0_pay15, k0_pay16, k0_pay17, k0_pay18, k0_pay19, kernelRun0_A.sl.v3584, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13]
  rw [read_one arg11 harg11 x9 _ (by decide : 0 < 8), read_one arg11 harg11 x9 _ (by decide : 1 < 8), read_one arg11 harg11 x9 _ (by decide : 2 < 8),
    read_one arg11 harg11 x9 _ (by decide : 3 < 8), read_one arg11 harg11 x9 _ (by decide : 4 < 8), read_one arg11 harg11 x9 _ (by decide : 5 < 8),
    read_one arg11 harg11 x9 _ (by decide : 6 < 8), read_one arg11 harg11 x9 _ (by decide : 7 < 8)]
  have h : IntOp.subi (1#32) (0#32) = 1#32 := rfl
  have e := wDiv16 r
  have p := pick8 (fun q => x9 (ix1 q)) ⟨r.val / 16, by omega⟩ 0
  rw [← e] at p
  exact p

/-- The scale of `r` along the lanes. -/
theorem rsr_apply (c : Dev nD) (arg9 : Memref sig .tc .smem S16 .f32) (harg9 : arg9.IsWhole) (x7 : Vec Ideal S16 .f32) (r : Fin 8) (n : Fin 1024) :
    k0_pay27 (F := Ideal) k0_pay21 (kernelRun0_A.sl.v3723 c arg9 harg9 x7) (cmpi CmpIPredicate.eq k0_pay21 kernelRun0_A.sl.v3724)
        (kernelRun0_A.sl.v3727 c arg9 harg9 x7) (kernelRun0_A.sl.r_25 c arg9 harg9 x7)
        (kernelRun0_A.sl.r_26 c arg9 harg9 x7) (kernelRun0_A.sl.r_27 c arg9 harg9 x7)
        (kernelRun0_A.sl.r_28 c arg9 harg9 x7) (kernelRun0_A.sl.r_29 c arg9 harg9 x7)
        (kernelRun0_A.sl.r_30 c arg9 harg9 x7) (ix2 r n) = x7 (ix1 ⟨n.val / 64, by omega⟩) := by
  pointwise [k0_pay27, k0_pay21, k0_pay22, k0_pay23, k0_pay24, k0_pay25, k0_pay26, kernelRun0_A.sl.v3687, kernelRun0_A.sl.v3688, kernelRun0_A.sl.v3689, kernelRun0_A.sl.v3692, kernelRun0_A.sl.v3693, kernelRun0_A.sl.v3694, kernelRun0_A.sl.v3697, kernelRun0_A.sl.v3698, kernelRun0_A.sl.v3699, kernelRun0_A.sl.v3702, kernelRun0_A.sl.v3703, kernelRun0_A.sl.v3704, kernelRun0_A.sl.v3707, kernelRun0_A.sl.v3708, kernelRun0_A.sl.v3709, kernelRun0_A.sl.v3712, kernelRun0_A.sl.v3713, kernelRun0_A.sl.v3714, kernelRun0_A.sl.v3717, kernelRun0_A.sl.v3718, kernelRun0_A.sl.v3719, kernelRun0_A.sl.v3722, kernelRun0_A.sl.v3723, kernelRun0_A.sl.v3724, kernelRun0_A.sl.v3727, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30]
  rw [read_one arg9 harg9 x7 _ (by decide : 0 < 16), read_one arg9 harg9 x7 _ (by decide : 1 < 16), read_one arg9 harg9 x7 _ (by decide : 2 < 16), read_one arg9 harg9 x7 _ (by decide : 3 < 16), read_one arg9 harg9 x7 _ (by decide : 4 < 16), read_one arg9 harg9 x7 _ (by decide : 5 < 16), read_one arg9 harg9 x7 _ (by decide : 6 < 16), read_one arg9 harg9 x7 _ (by decide : 7 < 16), read_one arg9 harg9 x7 _ (by decide : 8 < 16), read_one arg9 harg9 x7 _ (by decide : 9 < 16), read_one arg9 harg9 x7 _ (by decide : 10 < 16), read_one arg9 harg9 x7 _ (by decide : 11 < 16), read_one arg9 harg9 x7 _ (by decide : 12 < 16), read_one arg9 harg9 x7 _ (by decide : 13 < 16), read_one arg9 harg9 x7 _ (by decide : 14 < 16), read_one arg9 harg9 x7 _ (by decide : 15 < 16)]
  have e := wDiv64 n
  have p := pick16 (fun q => x7 (ix1 q)) ⟨n.val / 64, by omega⟩ 0
  rw [← e] at p
  exact p

end Cert.KernelIdeal.Model

end
-- ==== Proof.Weights.lean ====
/-
  The lists of stores that prepare the weights at the first point, as functions of an index.
-/
module

public import proofs.«01_k».proof.Proof.WPerm

@[expose] public section

set_option maxRecDepth 16384

noncomputable section

namespace Cert.KernelIdeal.Model

open Idealize.ShloMosaic Idealize.SL.Sem Idealize.ShloMosaic.TcCoe Cert.KernelIdeal.Gen

theorem zero2 : (![0, 0] : Fin 2 → ℕ) = fun _ => 0 := by
  funext k
  fin_cases k <;> rfl

theorem canon_perm : View.canon (kernelRun0_A.sl.HS0_1 (F := Ideal)) = permW := by
  refine (View.canon_unit_zero zero2 _ _).trans ?_
  funext y
  obtain ⟨r, n, rfl⟩ : ∃ (r : Fin 256) (n : Fin 256), y = ix2 r n := ⟨y 0, y 1, idx2_ext rfl rfl⟩
  exact perm_apply r n

theorem canon_rb (c : Dev nD) (M : Memref sig .tc .vmem S16x8x64 .fp8e4m3) (hM : M.IsWhole) (V : Vals) :
    View.canon (kernelRun0_A.sl.HS2_1 (F := Ideal) c M hM V.r) = rbW V := by
  have e : kernelRun0_A.sl.r_1 (F := Ideal) c M hM V.r = k0_pay11 V.r := by
    unfold kernelRun0_A.sl.r_1
    exact congrArg k0_pay11 (read_whole3 M hM V.r _)
  refine (View.canon_unit_zero zero2 _ _).trans ?_
  funext y
  obtain ⟨r, n, rfl⟩ : ∃ (r : Fin 128) (n : Fin 1024), y = ix2 r n := ⟨y 0, y 1, idx2_ext rfl rfl⟩
  unfold kernelRun0_A.sl.r_2
  rw [e]
  exact rb_apply V.r r n

theorem canon_lsc (c : Dev nD) (M : Memref sig .tc .smem S8 .f32) (hM : M.IsWhole) (V : Vals) :
    View.canon (kernelRun0_A.sl.HS3_1 (F := Ideal) c M hM V.ls) = lscW V := by
  refine (View.canon_unit_zero zero2 _ _).trans ?_
  funext y
  obtain ⟨r, n, rfl⟩ : ∃ (r : Fin 128) (n : Fin 128), y = ix2 r n := ⟨y 0, y 1, idx2_ext rfl rfl⟩
  exact lsc_apply c M hM V.ls r n

theorem canon_rsr (c : Dev nD) (M : Memref sig .tc .smem S16 .f32) (hM : M.IsWhole) (V : Vals) :
    View.canon (kernelRun0_A.sl.HS4_1 (F := Ideal) c M hM V.rs) = rsrW V := by
  refine (View.canon_unit_zero zero2 _ _).trans ?_
  funext y
  obtain ⟨r, n, rfl⟩ : ∃ (r : Fin 8) (n : Fin 1024), y = ix2 r n := ⟨y 0, y 1, idx2_ext rfl rfl⟩
  exact rsr_apply c M hM V.rs r n

theorem emb_ltHalf (o : ℕ) (r n : Fin 128) (ho : o + n.val < 256) (inb) :
    (Rect.unit (s := S128x256) ![0, o] S128x128.size inb).emb (ix2 r n) = ix2 r ⟨o + n.val, ho⟩ := by
  refine idx2_ext ?_ ?_ <;> simp [Rect.unit, Rect.emb, LoadRect.idx]

theorem canon_lt (c : Dev nD) (M : Memref sig .tc .vmem S8x16x128 .fp8e4m3) (hM : M.IsWhole) (V : Vals) :
    View.canon (kernelRun0_A.sl.HS1_2 (F := Ideal) c M hM V.l) = ltW V := by
  have e : kernelRun0_A.sl.r (F := Ideal) c M hM V.l = k0_pay5 V.l := by
    unfold kernelRun0_A.sl.r
    exact congrArg k0_pay5 (read_whole3 M hM V.l _)
  have h1 : ∀ x : S128x128.Idx, k0_pay10 (F := Ideal) k0_pay4 (kernelRun0_A.sl.r c M hM V.l) x =
      ltW V ((Rect.unit (s := S128x256) ![0, 128] S128x128.size inb_S128x256_S128x128_0_128).emb x) := by
    intro x
    obtain ⟨r, n, rfl⟩ : ∃ (r : Fin 128) (n : Fin 128), x = ix2 r n := ⟨x 0, x 1, idx2_ext rfl rfl⟩
    rw [emb_ltHalf 128 r n (by omega), e, lt1_apply]
    refine if_congr ?_ ?_ rfl
    · show _ ↔ r.val / 16 % 2 = (128 + n.val) / 128
      omega
    · congr 1
      refine idx3_ext rfl rfl ?_
      show n.val = (128 + n.val) % 128
      omega
  have h0 : ∀ x : S128x128.Idx, k0_pay9 (F := Ideal) (kernelRun0_A.sl.r c M hM V.l) k0_pay6 k0_pay7 k0_pay8 x =
      ltW V ((Rect.unit (s := S128x256) ![0, 0] S128x128.size inb_S128x256_S128x128_0_0).emb x) := by
    intro x
    obtain ⟨r, n, rfl⟩ : ∃ (r : Fin 128) (n : Fin 128), x = ix2 r n := ⟨x 0, x 1, idx2_ext rfl rfl⟩
    rw [emb_ltHalf 0 r n (by omega), e, lt0_apply]
    refine if_congr ?_ ?_ rfl
    · show _ ↔ r.val / 16 % 2 = (0 + n.val) / 128
      omega
    · congr 1
      refine idx3_ext rfl rfl ?_
      show n.val = (0 + n.val) % 128
      omega
  funext y
  obtain ⟨r, n, rfl⟩ : ∃ (r : Fin 128) (n : Fin 256), y = ix2 r n := ⟨y 0, y 1, idx2_ext rfl rfl⟩
  unfold kernelRun0_A.sl.HS1_2
  rw [← List.append_nil [_, _]]
  have hL : ∀ p ∈ kernelRun0_A.sl.HS1_2 (F := Ideal) c M hM V.l, ∀ x : p.1.shape.Idx, p.2 x = ltW V (p.1.emb x) := by
    intro p hp
    simp only [kernelRun0_A.sl.HS1_2, List.mem_cons, List.not_mem_nil, or_false] at hp
    rcases hp with rfl | rfl
    · exact h1
    · exact h0
  by_cases hn : n.val < 128
  · refine canon_at (ltW V) [] _ hL ⟨_, _⟩ (List.mem_cons_of_mem _ (List.mem_singleton.mpr rfl)) (ix2 r ⟨n.val, hn⟩) _ ?_
    refine (emb_ltHalf 0 r ⟨n.val, hn⟩ (by show 0 + n.val < 256; omega) inb_S128x256_S128x128_0_0).trans (idx2_ext rfl ?_)
    show 0 + n.val = n.val
    omega
  · refine canon_at (ltW V) [] _ hL ⟨_, _⟩ List.mem_cons_self (ix2 r ⟨n.val - 128, by omega⟩) _ ?_
    refine (emb_ltHalf 128 r ⟨n.val - 128, by omega⟩ (by show 128 + (n.val - 128) < 256; omega) inb_S128x256_S128x128_0_128).trans (idx2_ext rfl ?_)
    show 128 + (n.val - 128) = n.val
    omega

end Cert.KernelIdeal.Model

end
-- ==== Proof.OutA.lean ====
/-
  What the first point leaves in its outputs and in the scratch.
-/
module

public import proofs.«01_k».proof.Proof.Point
public import proofs.«01_k».proof.Proof.CaseA
public import proofs.«01_k».proof.Proof.Weights
public import proofs.«01_k».proof.Proof.Gen.KernelIdeal.Frame

@[expose] public section

set_option maxRecDepth 16384

noncomputable section

namespace Cert.KernelIdeal.Model

open Idealize.ShloMosaic Idealize.SL.Sem Idealize.ShloMosaic.TcCoe Cert.KernelIdeal.Gen

/-- The cleared accumulator of `l`. -/
theorem zero28 : View.canon (kernelRun0_A.sl.HS5_1 (F := Ideal)) = fun _ => (0 : EReal) := by
  unfold kernelRun0_A.sl.HS5_1
  refine (View.canon_unit_zero zero2 _ _).trans ?_
  funext y
  obtain ⟨r, n, rfl⟩ : ∃ (r : Fin 128) (n : Fin 256), y = ix2 r n := ⟨y 0, y 1, idx2_ext rfl rfl⟩
  show k0_pay28 (F := Ideal) (ix2 r n) = (0 : EReal)
  pointwise [k0_pay28]

/-- The cleared accumulator of `r`. -/
theorem zero54 : View.canon (kernelRun0_A.sl.HS6_1 (F := Ideal)) = fun _ => (0 : EReal) := by
  unfold kernelRun0_A.sl.HS6_1
  refine (View.canon_unit_zero zero2 _ _).trans ?_
  funext y
  obtain ⟨r, n, rfl⟩ : ∃ (r : Fin 128) (n : Fin 256), y = ix2 r n := ⟨y 0, y 1, idx2_ext rfl rfl⟩
  show k0_pay54 (k0_pay29 (F := Ideal)) (ix2 r n) = (0 : EReal)
  pointwise [k0_pay54, k0_pay29]

variable
  (c : Dev nD) (i : grid0.Coords) (arg2 : Memref sig .tc .vmem S1x2048x1024 .fp8e5m2) (harg2 : arg2.IsWhole) (arg3 :
  Memref sig .tc .vmem S8x2048 .f32) (harg3 : arg3.IsWhole) (arg4 : Memref sig .tc .vmem S1x2048x1024 .fp8e4m3)
  (harg4 : arg4.IsWhole) (arg5 : Memref sig .tc .vmem S8x2048 .f32) (harg5 : arg5.IsWhole) (arg6 : Memref sig .tc
  .vmem S1x16x8x2048 .fp8e4m3) (harg6 : arg6.IsWhole) (arg7 : Memref sig .tc .vmem S8x2048 .f32) (harg7 :
  arg7.IsWhole) (arg8 : Memref sig .tc .vmem S16x8x64 .fp8e4m3) (harg8 : arg8.IsWhole) (arg9 : Memref sig .tc .smem
  S16 .f32) (harg9 : arg9.IsWhole) (arg10 : Memref sig .tc .vmem S8x16x128 .fp8e4m3) (harg10 : arg10.IsWhole) (arg11
  : Memref sig .tc .smem S8 .f32) (harg11 : arg11.IsWhole) (arg12 : Memref sig .tc .vmem S1x2048x1024 .bf16) (harg12
  : arg12.IsWhole) (arg13 : Memref sig .tc .vmem S1x16x8x2048 .bf16) (harg13 : arg13.IsWhole) (arg14 : Memref sig
  .tc .vmem S8x16x128 .f32) (harg14 : arg14.IsWhole) (arg15 : Memref sig .tc .vmem S16x8x64 .f32) (harg15 :
  arg15.IsWhole) (arg16 : Memref sig .tc .vmem S256x256 .fp8e4m3) (harg16 : arg16.IsWhole) (arg17 : Memref sig .tc
  .vmem S128x256 .fp8e4m3) (harg17 : arg17.IsWhole) (arg18 : Memref sig .tc .vmem S128x1024 .bf16) (harg18 :
  arg18.IsWhole) (arg19 : Memref sig .tc .vmem S128x128 .f32) (harg19 : arg19.IsWhole) (arg20 : Memref sig .tc .vmem
  S8x1024 .f32) (harg20 : arg20.IsWhole) (arg21 : Memref sig .tc .vmem S128x256 .f32) (harg21 : arg21.IsWhole)
  (arg22 : Memref sig .tc .vmem S128x256 .f32) (harg22 : arg22.IsWhole) (arg23 : Memref sig .tc .vmem S1024x2048
  .fp8e5m2) (harg23 : arg23.IsWhole) (arg24 : Memref sig .tc .vmem S2x128x128 .f32) (harg24 : arg24.IsWhole) (arg25
  : Memref sig .tc .vmem S2x128x128 .f32) (harg25 : arg25.IsWhole)
variable (hc0 : cond0_0 i) (hc1 : ¬cond0_1 i)
variable (x0 : Vec Ideal S1x2048x1024 .fp8e5m2) (x1 : Vec Ideal S8x2048 .f32) (x2 : Vec Ideal S1x2048x1024
  .fp8e4m3) (x3 : Vec Ideal S8x2048 .f32) (x4 : Vec Ideal S1x16x8x2048 .fp8e4m3) (x5 : Vec Ideal S8x2048 .f32)
  (x6 : Vec Ideal S16x8x64 .fp8e4m3) (x7 : Vec Ideal S16 .f32) (x8 : Vec Ideal S8x16x128 .fp8e4m3) (x9 : Vec
  Ideal S8 .f32)

/-- The stores of the five weights. -/
theorem weightsA :
    View.canon (kernelRun0_A
      c i arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18
      arg19 harg19 arg20 harg20 arg21 harg21 arg22 harg22 arg23 harg23 arg24 harg24 arg25 harg25 hc0 hc1 x0 x1
      x2 x3 x4 x5 x6 x7 x8 x9).2.2.2.2.1 = permW ∧
    View.canon (kernelRun0_A
      c i arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18
      arg19 harg19 arg20 harg20 arg21 harg21 arg22 harg22 arg23 harg23 arg24 harg24 arg25 harg25 hc0 hc1 x0 x1
      x2 x3 x4 x5 x6 x7 x8 x9).2.2.2.2.2.1 = ltW (valsOf i x0 x1 x2 x3 x4 x5 x6 x7 x8 x9) ∧
    View.canon (kernelRun0_A
      c i arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18
      arg19 harg19 arg20 harg20 arg21 harg21 arg22 harg22 arg23 harg23 arg24 harg24 arg25 harg25 hc0 hc1 x0 x1
      x2 x3 x4 x5 x6 x7 x8 x9).2.2.2.2.2.2.1 = rbW (valsOf i x0 x1 x2 x3 x4 x5 x6 x7 x8 x9) ∧
    View.canon (kernelRun0_A
      c i arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18
      arg19 harg19 arg20 harg20 arg21 harg21 arg22 harg22 arg23 harg23 arg24 harg24 arg25 harg25 hc0 hc1 x0 x1
      x2 x3 x4 x5 x6 x7 x8 x9).2.2.2.2.2.2.2.1 = lscW (valsOf i x0 x1 x2 x3 x4 x5 x6 x7 x8 x9) ∧
    View.canon (kernelRun0_A
      c i arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18
      arg19 harg19 arg20 harg20 arg21 harg21 arg22 harg22 arg23 harg23 arg24 harg24 arg25 harg25 hc0 hc1 x0 x1
      x2 x3 x4 x5 x6 x7 x8 x9).2.2.2.2.2.2.2.2.1 = rsrW (valsOf i x0 x1 x2 x3 x4 x5 x6 x7 x8 x9) :=
  ⟨canon_perm, canon_lt c arg10 harg10 (valsOf i x0 x1 x2 x3 x4 x5 x6 x7 x8 x9), canon_rb c arg8 harg8 (valsOf i x0 x1 x2 x3 x4 x5 x6 x7 x8 x9),
    canon_lsc c arg11 harg11 (valsOf i x0 x1 x2 x3 x4 x5 x6 x7 x8 x9), canon_rsr c arg9 harg9 (valsOf i x0 x1 x2 x3 x4 x5 x6 x7 x8 x9)⟩

/-- The loads of the first point. -/
theorem readsA : Reads (insBuilt i arg2 harg2 arg3 harg3 arg4 harg4 arg5 harg5 arg6 harg6 arg7 harg7 arg16 arg17 arg18 arg19 arg20 arg23 arg24 arg25 x0 x1 x2 x3 x4 x5
      kernelRun0_A.sl.HS0_1
      (kernelRun0_A.sl.HS1_2 c arg10 harg10 x8)
      (kernelRun0_A.sl.HS2_1 c arg8 harg8 x6)
      (kernelRun0_A.sl.HS3_1 c arg11 harg11 x9)
      (kernelRun0_A.sl.HS4_1 c arg9 harg9 x7))
      (valsOf i x0 x1 x2 x3 x4 x5 x6 x7 x8 x9) :=
  reads_built i arg2 harg2 arg3 harg3 arg4 harg4 arg5 harg5 arg6 harg6 arg7 harg7 arg16 arg17 arg18 arg19 arg20 arg23 arg24 arg25 x0 x1 x2 x3 x4 x5 x6 x7 x8 x9 _ _ _ _ _ canon_perm (canon_lt c arg10 harg10 (valsOf i x0 x1 x2 x3 x4 x5 x6 x7 x8 x9)) (canon_rb c arg8 harg8 (valsOf i x0 x1 x2 x3 x4 x5 x6 x7 x8 x9)) (canon_lsc c arg11 harg11 (valsOf i x0 x1 x2 x3 x4 x5 x6 x7 x8 x9)) (canon_rsr c arg9 harg9 (valsOf i x0 x1 x2 x3 x4 x5 x6 x7 x8 x9))

/-- Its block of `dx`. -/
theorem a_dx :
    out0_A_10
      c i arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18
      arg19 harg19 arg20 harg20 arg21 harg21 arg22 harg22 arg23 harg23 arg24 harg24 arg25 harg25 hc0 hc1 x0 x1
      x2 x3 x4 x5 x6 x7 x8 x9 =
    (valsOf i x0 x1 x2 x3 x4 x5 x6 x7 x8 x9).dxBlk := by
  unfold out0_A_10
  rw [View.read_writes_junk_eq_canon, runA_dx]
  exact dx_canon (readsA c i arg2 harg2 arg3 harg3 arg4 harg4 arg5 harg5 arg6 harg6 arg7 harg7 arg8 harg8 arg9 harg9 arg10 harg10 arg11 harg11 arg16 arg17 arg18 arg19 arg20 arg23 arg24 arg25 x0 x1 x2 x3 x4 x5 x6 x7 x8 x9)

/-- Its block of `dh`. -/
theorem a_dh :
    out0_A_11
      c i arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18
      arg19 harg19 arg20 harg20 arg21 harg21 arg22 harg22 arg23 harg23 arg24 harg24 arg25 harg25 hc0 hc1 x0 x1
      x2 x3 x4 x5 x6 x7 x8 x9 =
    (valsOf i x0 x1 x2 x3 x4 x5 x6 x7 x8 x9).dhBlk := by
  unfold out0_A_11
  rw [View.read_writes_junk_eq_canon, runA_dh]
  exact dh_canon (readsA c i arg2 harg2 arg3 harg3 arg4 harg4 arg5 harg5 arg6 harg6 arg7 harg7 arg8 harg8 arg9 harg9 arg10 harg10 arg11 harg11 arg16 arg17 arg18 arg19 arg20 arg23 arg24 arg25 x0 x1 x2 x3 x4 x5 x6 x7 x8 x9)

/-- The weights it leaves. -/
theorem a_perm :
    sout0_A_0
      c i arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18
      arg19 harg19 arg20 harg20 arg21 harg21 arg22 harg22 arg23 harg23 arg24 harg24 arg25 harg25 hc0 hc1 x0 x1
      x2 x3 x4 x5 x6 x7 x8 x9 =
    permW := by
  unfold sout0_A_0
  rw [View.read_writes_junk_eq_canon]
  exact (weightsA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9).1

/-- The weights it leaves. -/
theorem a_lt :
    sout0_A_1
      c i arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18
      arg19 harg19 arg20 harg20 arg21 harg21 arg22 harg22 arg23 harg23 arg24 harg24 arg25 harg25 hc0 hc1 x0 x1
      x2 x3 x4 x5 x6 x7 x8 x9 =
    ltW (valsOf i x0 x1 x2 x3 x4 x5 x6 x7 x8 x9) := by
  unfold sout0_A_1
  rw [View.read_writes_junk_eq_canon]
  exact (weightsA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9).2.1

/-- The weights it leaves. -/
theorem a_rb :
    sout0_A_2
      c i arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18
      arg19 harg19 arg20 harg20 arg21 harg21 arg22 harg22 arg23 harg23 arg24 harg24 arg25 harg25 hc0 hc1 x0 x1
      x2 x3 x4 x5 x6 x7 x8 x9 =
    rbW (valsOf i x0 x1 x2 x3 x4 x5 x6 x7 x8 x9) := by
  unfold sout0_A_2
  rw [View.read_writes_junk_eq_canon]
  exact (weightsA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9).2.2.1

/-- The weights it leaves. -/
theorem a_lsc :
    sout0_A_3
      c i arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18
      arg19 harg19 arg20 harg20 arg21 harg21 arg22 harg22 arg23 harg23 arg24 harg24 arg25 harg25 hc0 hc1 x0 x1
      x2 x3 x4 x5 x6 x7 x8 x9 =
    lscW (valsOf i x0 x1 x2 x3 x4 x5 x6 x7 x8 x9) := by
  unfold sout0_A_3
  rw [View.read_writes_junk_eq_canon]
  exact (weightsA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9).2.2.2.1

/-- The weights it leaves. -/
theorem a_rsr :
    sout0_A_4
      c i arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18
      arg19 harg19 arg20 harg20 arg21 harg21 arg22 harg22 arg23 harg23 arg24 harg24 arg25 harg25 hc0 hc1 x0 x1
      x2 x3 x4 x5 x6 x7 x8 x9 =
    rsrW (valsOf i x0 x1 x2 x3 x4 x5 x6 x7 x8 x9) := by
  unfold sout0_A_4
  rw [View.read_writes_junk_eq_canon]
  exact (weightsA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9).2.2.2.2

/-- The accumulated gradient of `l`. -/
theorem a_dlAcc :
    sout0_A_5
      c i arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18
      arg19 harg19 arg20 harg20 arg21 harg21 arg22 harg22 arg23 harg23 arg24 harg24 arg25 harg25 hc0 hc1 x0 x1
      x2 x3 x4 x5 x6 x7 x8 x9 =
    accAdd (fun _ => (0 : EReal)) (valsOf i x0 x1 x2 x3 x4 x5 x6 x7 x8 x9).dlTile := by
  unfold sout0_A_5
  rw [View.read_writes_junk_eq_canon, runA_dlAcc, canon_accOver4, dlSum_eq (readsA c i arg2 harg2 arg3 harg3 arg4 harg4 arg5 harg5 arg6 harg6 arg7 harg7 arg8 harg8 arg9 harg9 arg10 harg10 arg11 harg11 arg16 arg17 arg18 arg19 arg20 arg23 arg24 arg25 x0 x1 x2 x3 x4 x5 x6 x7 x8 x9)]
  exact congrArg (fun O => accAdd O _) zero28

/-- The accumulated gradient of `r`. -/
theorem a_drAcc :
    sout0_A_6
      c i arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18
      arg19 harg19 arg20 harg20 arg21 harg21 arg22 harg22 arg23 harg23 arg24 harg24 arg25 harg25 hc0 hc1 x0 x1
      x2 x3 x4 x5 x6 x7 x8 x9 =
    accAdd (fun _ => (0 : EReal)) (valsOf i x0 x1 x2 x3 x4 x5 x6 x7 x8 x9).drTile := by
  unfold sout0_A_6
  rw [View.read_writes_junk_eq_canon, runA_drAcc, canon_accOver4, drSum_eq (readsA c i arg2 harg2 arg3 harg3 arg4 harg4 arg5 harg5 arg6 harg6 arg7 harg7 arg8 harg8 arg9 harg9 arg10 harg10 arg11 harg11 arg16 arg17 arg18 arg19 arg20 arg23 arg24 arg25 x0 x1 x2 x3 x4 x5 x6 x7 x8 x9)]
  exact congrArg (fun O => accAdd O _) zero54

end Cert.KernelIdeal.Model

end
-- ==== Proof.CaseB.lean ====
/-
  The run of a middle point: it finds the weights and the accumulators as the point before left them. Its pieces are the model's.
-/
module

public import proofs.«01_k».proof.Proof.ModelIns
public import proofs.«01_k».proof.Proof.Gen.KernelIdeal.Frame.RunB

@[expose] public section

set_option maxRecDepth 16384

noncomputable section

namespace Cert.KernelIdeal.Model

open Idealize.ShloMosaic Idealize.SL.Sem Cert.KernelIdeal.Gen

variable {F : FTy → Type} [FloatOps F]

-- the vector operations and the loads are compared by their arguments only
attribute [local irreducible] View.readAt View.readCov Memref.IsWhole.unread shapeCast extractStridedSlice truncf extf mulf addf
  broadcastTo concatenate transpose constant FloatOps.matmul Rect.unit k0_off1

set_option maxHeartbeats 4000000

variable
  (c : Dev nD) (i : grid0.Coords) (arg2 : Memref sig .tc .vmem S1x2048x1024 .fp8e5m2) (harg2 : arg2.IsWhole) (arg3 :
  Memref sig .tc .vmem S8x2048 .f32) (harg3 : arg3.IsWhole) (arg4 : Memref sig .tc .vmem S1x2048x1024 .fp8e4m3)
  (harg4 : arg4.IsWhole) (arg5 : Memref sig .tc .vmem S8x2048 .f32) (harg5 : arg5.IsWhole) (arg6 : Memref sig .tc
  .vmem S1x16x8x2048 .fp8e4m3) (harg6 : arg6.IsWhole) (arg7 : Memref sig .tc .vmem S8x2048 .f32) (harg7 :
  arg7.IsWhole) (arg8 : Memref sig .tc .vmem S16x8x64 .fp8e4m3) (harg8 : arg8.IsWhole) (arg9 : Memref sig .tc .smem
  S16 .f32) (harg9 : arg9.IsWhole) (arg10 : Memref sig .tc .vmem S8x16x128 .fp8e4m3) (harg10 : arg10.IsWhole) (arg11
  : Memref sig .tc .smem S8 .f32) (harg11 : arg11.IsWhole) (arg12 : Memref sig .tc .vmem S1x2048x1024 .bf16) (harg12
  : arg12.IsWhole) (arg13 : Memref sig .tc .vmem S1x16x8x2048 .bf16) (harg13 : arg13.IsWhole) (arg14 : Memref sig
  .tc .vmem S8x16x128 .f32) (harg14 : arg14.IsWhole) (arg15 : Memref sig .tc .vmem S16x8x64 .f32) (harg15 :
  arg15.IsWhole) (arg16 : Memref sig .tc .vmem S256x256 .fp8e4m3) (harg16 : arg16.IsWhole) (arg17 : Memref sig .tc
  .vmem S128x256 .fp8e4m3) (harg17 : arg17.IsWhole) (arg18 : Memref sig .tc .vmem S128x1024 .bf16) (harg18 :
  arg18.IsWhole) (arg19 : Memref sig .tc .vmem S128x128 .f32) (harg19 : arg19.IsWhole) (arg20 : Memref sig .tc .vmem
  S8x1024 .f32) (harg20 : arg20.IsWhole) (arg21 : Memref sig .tc .vmem S128x256 .f32) (harg21 : arg21.IsWhole)
  (arg22 : Memref sig .tc .vmem S128x256 .f32) (harg22 : arg22.IsWhole) (arg23 : Memref sig .tc .vmem S1024x2048
  .fp8e5m2) (harg23 : arg23.IsWhole) (arg24 : Memref sig .tc .vmem S2x128x128 .f32) (harg24 : arg24.IsWhole) (arg25
  : Memref sig .tc .vmem S2x128x128 .f32) (harg25 : arg25.IsWhole)
variable (hc0 : ¬cond0_0 i) (hc1 : ¬cond0_1 i)
variable
  (x0 : Vec F S1x2048x1024 .fp8e5m2) (x1 : Vec F S8x2048 .f32) (x2 : Vec F S1x2048x1024 .fp8e4m3) (x3 : Vec F
  S8x2048 .f32) (x4 : Vec F S1x16x8x2048 .fp8e4m3) (x5 : Vec F S8x2048 .f32) (x6 : Vec F S16x8x64 .fp8e4m3) (x7 :
  Vec F S16 .f32) (x8 : Vec F S8x16x128 .fp8e4m3) (x9 : Vec F S8 .f32) (xs0 : Vec F S256x256 .fp8e4m3) (xs1 : Vec F
  S128x256 .fp8e4m3) (xs2 : Vec F S128x1024 .bf16) (xs3 : Vec F S128x128 .f32) (xs4 : Vec F S8x1024 .f32) (xs5 : Vec
  F S128x256 .f32) (xs6 : Vec F S128x256 .f32)

/-- The stores of `dx`. -/
theorem runB_dx :
    (kernelRun0_B
      c i arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18
      arg19 harg19 arg20 harg20 arg21 harg21 arg22 harg22 arg23 harg23 arg24 harg24 arg25 harg25 hc0 hc1 x0 x1
      x2 x3 x4 x5 x6 x7 x8 x9 xs0 xs1 xs2 xs3 xs4 xs5 xs6).1 =
    dxPieces (insHeld i arg2 harg2 arg3 harg3 arg4 harg4 arg5 harg5 arg6 harg6 arg7 harg7 arg16 harg16 arg17 harg17 arg18
      harg18 arg19 harg19 arg20 harg20 arg23 arg24 arg25 x0 x1 x2 x3 x4 x5 xs0 xs1 xs2 xs3 xs4) 8 := (rfl)

/-- The stores of `dh`. -/
theorem runB_dh :
    (kernelRun0_B
      c i arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18
      arg19 harg19 arg20 harg20 arg21 harg21 arg22 harg22 arg23 harg23 arg24 harg24 arg25 harg25 hc0 hc1 x0 x1
      x2 x3 x4 x5 x6 x7 x8 x9 xs0 xs1 xs2 xs3 xs4 xs5 xs6).2.1 =
    dhPieces (insHeld i arg2 harg2 arg3 harg3 arg4 harg4 arg5 harg5 arg6 harg6 arg7 harg7 arg16 harg16 arg17 harg17 arg18
      harg18 arg19 harg19 arg20 harg20 arg23 arg24 arg25 x0 x1 x2 x3 x4 x5 xs0 xs1 xs2 xs3 xs4) 8 := (rfl)

/-- The stores of the accumulated gradient of `l`. -/
theorem runB_dlAcc :
    (kernelRun0_B
      c i arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18
      arg19 harg19 arg20 harg20 arg21 harg21 arg22 harg22 arg23 harg23 arg24 harg24 arg25 harg25 hc0 hc1 x0 x1
      x2 x3 x4 x5 x6 x7 x8 x9 xs0 xs1 xs2 xs3 xs4 xs5 xs6).2.2.2.2.2.2.2.2.2.1 =
    accPieces (fun B => View.readAt (Elt F) arg21.view B (harg21.unread xs5)) (dlSum (insHeld i arg2 harg2 arg3 harg3 arg4 harg4 arg5 harg5 arg6 harg6 arg7 harg7 arg16 harg16 arg17 harg17 arg18
      harg18 arg19 harg19 arg20 harg20 arg23 arg24 arg25 x0 x1 x2 x3 x4 x5 xs0 xs1 xs2 xs3 xs4)) := (rfl)

/-- The stores of the accumulated gradient of `r`. -/
theorem runB_drAcc :
    (kernelRun0_B
      c i arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18
      arg19 harg19 arg20 harg20 arg21 harg21 arg22 harg22 arg23 harg23 arg24 harg24 arg25 harg25 hc0 hc1 x0 x1
      x2 x3 x4 x5 x6 x7 x8 x9 xs0 xs1 xs2 xs3 xs4 xs5 xs6).2.2.2.2.2.2.2.2.2.2.1 =
    accPieces (fun B => View.readAt (Elt F) arg22.view B (harg22.unread xs6)) (drSum (insHeld i arg2 harg2 arg3 harg3 arg4 harg4 arg5 harg5 arg6 harg6 arg7 harg7 arg16 harg16 arg17 harg17 arg18
      harg18 arg19 harg19 arg20 harg20 arg23 arg24 arg25 x0 x1 x2 x3 x4 x5 xs0 xs1 xs2 xs3 xs4)) := (rfl)

end Cert.KernelIdeal.Model

end
-- ==== Proof.OutB.lean ====
/-
  What a middle point leaves in its outputs and in the scratch.
-/
module

public import proofs.«01_k».proof.Proof.Point
public import proofs.«01_k».proof.Proof.CaseB
public import proofs.«01_k».proof.Proof.Gen.KernelIdeal.Frame

@[expose] public section

set_option maxRecDepth 16384

noncomputable section

namespace Cert.KernelIdeal.Model

open Idealize.ShloMosaic Idealize.SL.Sem Idealize.ShloMosaic.TcCoe Cert.KernelIdeal.Gen

variable
  (c : Dev nD) (i : grid0.Coords) (arg2 : Memref sig .tc .vmem S1x2048x1024 .fp8e5m2) (harg2 : arg2.IsWhole) (arg3 :
  Memref sig .tc .vmem S8x2048 .f32) (harg3 : arg3.IsWhole) (arg4 : Memref sig .tc .vmem S1x2048x1024 .fp8e4m3)
  (harg4 : arg4.IsWhole) (arg5 : Memref sig .tc .vmem S8x2048 .f32) (harg5 : arg5.IsWhole) (arg6 : Memref sig .tc
  .vmem S1x16x8x2048 .fp8e4m3) (harg6 : arg6.IsWhole) (arg7 : Memref sig .tc .vmem S8x2048 .f32) (harg7 :
  arg7.IsWhole) (arg8 : Memref sig .tc .vmem S16x8x64 .fp8e4m3) (harg8 : arg8.IsWhole) (arg9 : Memref sig .tc .smem
  S16 .f32) (harg9 : arg9.IsWhole) (arg10 : Memref sig .tc .vmem S8x16x128 .fp8e4m3) (harg10 : arg10.IsWhole) (arg11
  : Memref sig .tc .smem S8 .f32) (harg11 : arg11.IsWhole) (arg12 : Memref sig .tc .vmem S1x2048x1024 .bf16) (harg12
  : arg12.IsWhole) (arg13 : Memref sig .tc .vmem S1x16x8x2048 .bf16) (harg13 : arg13.IsWhole) (arg14 : Memref sig
  .tc .vmem S8x16x128 .f32) (harg14 : arg14.IsWhole) (arg15 : Memref sig .tc .vmem S16x8x64 .f32) (harg15 :
  arg15.IsWhole) (arg16 : Memref sig .tc .vmem S256x256 .fp8e4m3) (harg16 : arg16.IsWhole) (arg17 : Memref sig .tc
  .vmem S128x256 .fp8e4m3) (harg17 : arg17.IsWhole) (arg18 : Memref sig .tc .vmem S128x1024 .bf16) (harg18 :
  arg18.IsWhole) (arg19 : Memref sig .tc .vmem S128x128 .f32) (harg19 : arg19.IsWhole) (arg20 : Memref sig .tc .vmem
  S8x1024 .f32) (harg20 : arg20.IsWhole) (arg21 : Memref sig .tc .vmem S128x256 .f32) (harg21 : arg21.IsWhole)
  (arg22 : Memref sig .tc .vmem S128x256 .f32) (harg22 : arg22.IsWhole) (arg23 : Memref sig .tc .vmem S1024x2048
  .fp8e5m2) (harg23 : arg23.IsWhole) (arg24 : Memref sig .tc .vmem S2x128x128 .f32) (harg24 : arg24.IsWhole) (arg25
  : Memref sig .tc .vmem S2x128x128 .f32) (harg25 : arg25.IsWhole)
variable (hc0 : ¬cond0_0 i) (hc1 : ¬cond0_1 i)
variable (x0 : Vec Ideal S1x2048x1024 .fp8e5m2) (x1 : Vec Ideal S8x2048 .f32) (x2 : Vec Ideal S1x2048x1024
  .fp8e4m3) (x3 : Vec Ideal S8x2048 .f32) (x4 : Vec Ideal S1x16x8x2048 .fp8e4m3) (x5 : Vec Ideal S8x2048 .f32)
  (x6 : Vec Ideal S16x8x64 .fp8e4m3) (x7 : Vec Ideal S16 .f32) (x8 : Vec Ideal S8x16x128 .fp8e4m3) (x9 : Vec
  Ideal S8 .f32)
variable (xs5 xs6 : Vec Ideal S128x256 .f32)

/-- Its block of `dx`. -/
theorem b_dx :
    out0_B_10
      c i arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18
      arg19 harg19 arg20 harg20 arg21 harg21 arg22 harg22 arg23 harg23 arg24 harg24 arg25 harg25 hc0 hc1 x0 x1
      x2 x3 x4 x5 x6 x7 x8 x9 permW (ltW (valsOf i x0 x1 x2 x3 x4 x5 x6 x7 x8 x9)) (rbW (valsOf i x0 x1 x2 x3
      x4 x5 x6 x7 x8 x9)) (lscW (valsOf i x0 x1 x2 x3 x4 x5 x6 x7 x8 x9)) (rsrW (valsOf i x0 x1 x2 x3 x4 x5 x6
      x7 x8 x9)) xs5 xs6 =
    (valsOf i x0 x1 x2 x3 x4 x5 x6 x7 x8 x9).dxBlk := by
  unfold out0_B_10
  rw [View.read_writes_junk_eq_canon, runB_dx]
  exact dx_canon (reads_held i arg2 harg2 arg3 harg3 arg4 harg4 arg5 harg5 arg6 harg6 arg7 harg7 arg16 harg16 arg17 harg17 arg18 harg18 arg19 harg19 arg20 harg20 arg23 arg24 arg25 x0 x1 x2 x3 x4 x5 x6 x7 x8 x9)

/-- Its block of `dh`. -/
theorem b_dh :
    out0_B_11
      c i arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18
      arg19 harg19 arg20 harg20 arg21 harg21 arg22 harg22 arg23 harg23 arg24 harg24 arg25 harg25 hc0 hc1 x0 x1
      x2 x3 x4 x5 x6 x7 x8 x9 permW (ltW (valsOf i x0 x1 x2 x3 x4 x5 x6 x7 x8 x9)) (rbW (valsOf i x0 x1 x2 x3
      x4 x5 x6 x7 x8 x9)) (lscW (valsOf i x0 x1 x2 x3 x4 x5 x6 x7 x8 x9)) (rsrW (valsOf i x0 x1 x2 x3 x4 x5 x6
      x7 x8 x9)) xs5 xs6 =
    (valsOf i x0 x1 x2 x3 x4 x5 x6 x7 x8 x9).dhBlk := by
  unfold out0_B_11
  rw [View.read_writes_junk_eq_canon, runB_dh]
  exact dh_canon (reads_held i arg2 harg2 arg3 harg3 arg4 harg4 arg5 harg5 arg6 harg6 arg7 harg7 arg16 harg16 arg17 harg17 arg18 harg18 arg19 harg19 arg20 harg20 arg23 arg24 arg25 x0 x1 x2 x3 x4 x5 x6 x7 x8 x9)

/-- The accumulated gradient of `l`. -/
theorem b_dlAcc :
    sout0_B_5
      c i arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18
      arg19 harg19 arg20 harg20 arg21 harg21 arg22 harg22 arg23 harg23 arg24 harg24 arg25 harg25 hc0 hc1 x0 x1
      x2 x3 x4 x5 x6 x7 x8 x9 permW (ltW (valsOf i x0 x1 x2 x3 x4 x5 x6 x7 x8 x9)) (rbW (valsOf i x0 x1 x2 x3
      x4 x5 x6 x7 x8 x9)) (lscW (valsOf i x0 x1 x2 x3 x4 x5 x6 x7 x8 x9)) (rsrW (valsOf i x0 x1 x2 x3 x4 x5 x6
      x7 x8 x9)) xs5 xs6 =
    accAdd xs5 (valsOf i x0 x1 x2 x3 x4 x5 x6 x7 x8 x9).dlTile := by
  unfold sout0_B_5
  rw [View.read_writes_junk_eq_canon, runB_dlAcc, canon_accPieces xs5 _ (read_held arg21 harg21 xs5), dlSum_eq (reads_held i arg2 harg2 arg3 harg3 arg4 harg4 arg5 harg5 arg6 harg6 arg7 harg7 arg16 harg16 arg17 harg17 arg18 harg18 arg19 harg19 arg20 harg20 arg23 arg24 arg25 x0 x1 x2 x3 x4 x5 x6 x7 x8 x9)]

/-- The accumulated gradient of `r`. -/
theorem b_drAcc :
    sout0_B_6
      c i arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18
      arg19 harg19 arg20 harg20 arg21 harg21 arg22 harg22 arg23 harg23 arg24 harg24 arg25 harg25 hc0 hc1 x0 x1
      x2 x3 x4 x5 x6 x7 x8 x9 permW (ltW (valsOf i x0 x1 x2 x3 x4 x5 x6 x7 x8 x9)) (rbW (valsOf i x0 x1 x2 x3
      x4 x5 x6 x7 x8 x9)) (lscW (valsOf i x0 x1 x2 x3 x4 x5 x6 x7 x8 x9)) (rsrW (valsOf i x0 x1 x2 x3 x4 x5 x6
      x7 x8 x9)) xs5 xs6 =
    accAdd xs6 (valsOf i x0 x1 x2 x3 x4 x5 x6 x7 x8 x9).drTile := by
  unfold sout0_B_6
  rw [View.read_writes_junk_eq_canon, runB_drAcc, canon_accPieces xs6 _ (read_held arg22 harg22 xs6), drSum_eq (reads_held i arg2 harg2 arg3 harg3 arg4 harg4 arg5 harg5 arg6 harg6 arg7 harg7 arg16 harg16 arg17 harg17 arg18 harg18 arg19 harg19 arg20 harg20 arg23 arg24 arg25 x0 x1 x2 x3 x4 x5 x6 x7 x8 x9)]

end Cert.KernelIdeal.Model

end
-- ==== Proof.CaseC.lean ====
/-
  The run of the last point: as a middle point, and it writes the two accumulators out. Its pieces are the model's.
-/
module

public import proofs.«01_k».proof.Proof.ModelIns
public import proofs.«01_k».proof.Proof.Gen.KernelIdeal.Frame.RunC

@[expose] public section

set_option maxRecDepth 16384

noncomputable section

namespace Cert.KernelIdeal.Model

open Idealize.ShloMosaic Idealize.SL.Sem Cert.KernelIdeal.Gen

variable {F : FTy → Type} [FloatOps F]

-- the vector operations and the loads are compared by their arguments only
attribute [local irreducible] View.readAt View.readCov Memref.IsWhole.unread shapeCast extractStridedSlice truncf extf mulf addf
  broadcastTo concatenate transpose constant FloatOps.matmul Rect.unit k0_off1

set_option maxHeartbeats 4000000

variable
  (c : Dev nD) (i : grid0.Coords) (arg2 : Memref sig .tc .vmem S1x2048x1024 .fp8e5m2) (harg2 : arg2.IsWhole) (arg3 :
  Memref sig .tc .vmem S8x2048 .f32) (harg3 : arg3.IsWhole) (arg4 : Memref sig .tc .vmem S1x2048x1024 .fp8e4m3)
  (harg4 : arg4.IsWhole) (arg5 : Memref sig .tc .vmem S8x2048 .f32) (harg5 : arg5.IsWhole) (arg6 : Memref sig .tc
  .vmem S1x16x8x2048 .fp8e4m3) (harg6 : arg6.IsWhole) (arg7 : Memref sig .tc .vmem S8x2048 .f32) (harg7 :
  arg7.IsWhole) (arg8 : Memref sig .tc .vmem S16x8x64 .fp8e4m3) (harg8 : arg8.IsWhole) (arg9 : Memref sig .tc .smem
  S16 .f32) (harg9 : arg9.IsWhole) (arg10 : Memref sig .tc .vmem S8x16x128 .fp8e4m3) (harg10 : arg10.IsWhole) (arg11
  : Memref sig .tc .smem S8 .f32) (harg11 : arg11.IsWhole) (arg12 : Memref sig .tc .vmem S1x2048x1024 .bf16) (harg12
  : arg12.IsWhole) (arg13 : Memref sig .tc .vmem S1x16x8x2048 .bf16) (harg13 : arg13.IsWhole) (arg14 : Memref sig
  .tc .vmem S8x16x128 .f32) (harg14 : arg14.IsWhole) (arg15 : Memref sig .tc .vmem S16x8x64 .f32) (harg15 :
  arg15.IsWhole) (arg16 : Memref sig .tc .vmem S256x256 .fp8e4m3) (harg16 : arg16.IsWhole) (arg17 : Memref sig .tc
  .vmem S128x256 .fp8e4m3) (harg17 : arg17.IsWhole) (arg18 : Memref sig .tc .vmem S128x1024 .bf16) (harg18 :
  arg18.IsWhole) (arg19 : Memref sig .tc .vmem S128x128 .f32) (harg19 : arg19.IsWhole) (arg20 : Memref sig .tc .vmem
  S8x1024 .f32) (harg20 : arg20.IsWhole) (arg21 : Memref sig .tc .vmem S128x256 .f32) (harg21 : arg21.IsWhole)
  (arg22 : Memref sig .tc .vmem S128x256 .f32) (harg22 : arg22.IsWhole) (arg23 : Memref sig .tc .vmem S1024x2048
  .fp8e5m2) (harg23 : arg23.IsWhole) (arg24 : Memref sig .tc .vmem S2x128x128 .f32) (harg24 : arg24.IsWhole) (arg25
  : Memref sig .tc .vmem S2x128x128 .f32) (harg25 : arg25.IsWhole)
variable (hc0 : ¬cond0_0 i) (hc1 : cond0_1 i)
variable
  (x0 : Vec F S1x2048x1024 .fp8e5m2) (x1 : Vec F S8x2048 .f32) (x2 : Vec F S1x2048x1024 .fp8e4m3) (x3 : Vec F
  S8x2048 .f32) (x4 : Vec F S1x16x8x2048 .fp8e4m3) (x5 : Vec F S8x2048 .f32) (x6 : Vec F S16x8x64 .fp8e4m3) (x7 :
  Vec F S16 .f32) (x8 : Vec F S8x16x128 .fp8e4m3) (x9 : Vec F S8 .f32) (xs0 : Vec F S256x256 .fp8e4m3) (xs1 : Vec F
  S128x256 .fp8e4m3) (xs2 : Vec F S128x1024 .bf16) (xs3 : Vec F S128x128 .f32) (xs4 : Vec F S8x1024 .f32) (xs5 : Vec
  F S128x256 .f32) (xs6 : Vec F S128x256 .f32)

/-- The stores of `dx`. -/
theorem runC_dx :
    (kernelRun0_C
      c i arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18
      arg19 harg19 arg20 harg20 arg21 harg21 arg22 harg22 arg23 harg23 arg24 harg24 arg25 harg25 hc0 hc1 x0 x1
      x2 x3 x4 x5 x6 x7 x8 x9 xs0 xs1 xs2 xs3 xs4 xs5 xs6).1 =
    dxPieces (insHeld i arg2 harg2 arg3 harg3 arg4 harg4 arg5 harg5 arg6 harg6 arg7 harg7 arg16 harg16 arg17 harg17 arg18
      harg18 arg19 harg19 arg20 harg20 arg23 arg24 arg25 x0 x1 x2 x3 x4 x5 xs0 xs1 xs2 xs3 xs4) 8 := (rfl)

/-- The stores of `dh`. -/
theorem runC_dh :
    (kernelRun0_C
      c i arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18
      arg19 harg19 arg20 harg20 arg21 harg21 arg22 harg22 arg23 harg23 arg24 harg24 arg25 harg25 hc0 hc1 x0 x1
      x2 x3 x4 x5 x6 x7 x8 x9 xs0 xs1 xs2 xs3 xs4 xs5 xs6).2.1 =
    dhPieces (insHeld i arg2 harg2 arg3 harg3 arg4 harg4 arg5 harg5 arg6 harg6 arg7 harg7 arg16 harg16 arg17 harg17 arg18
      harg18 arg19 harg19 arg20 harg20 arg23 arg24 arg25 x0 x1 x2 x3 x4 x5 xs0 xs1 xs2 xs3 xs4) 8 := (rfl)

/-- The stores of the accumulated gradient of `l`. -/
theorem runC_dlAcc :
    (kernelRun0_C
      c i arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18
      arg19 harg19 arg20 harg20 arg21 harg21 arg22 harg22 arg23 harg23 arg24 harg24 arg25 harg25 hc0 hc1 x0 x1
      x2 x3 x4 x5 x6 x7 x8 x9 xs0 xs1 xs2 xs3 xs4 xs5 xs6).2.2.2.2.2.2.2.2.2.1 =
    accPieces (fun B => View.readAt (Elt F) arg21.view B (harg21.unread xs5)) (dlSum (insHeld i arg2 harg2 arg3 harg3 arg4 harg4 arg5 harg5 arg6 harg6 arg7 harg7 arg16 harg16 arg17 harg17 arg18
      harg18 arg19 harg19 arg20 harg20 arg23 arg24 arg25 x0 x1 x2 x3 x4 x5 xs0 xs1 xs2 xs3 xs4)) := (rfl)

/-- The stores of the accumulated gradient of `r`. -/
theorem runC_drAcc :
    (kernelRun0_C
      c i arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18
      arg19 harg19 arg20 harg20 arg21 harg21 arg22 harg22 arg23 harg23 arg24 harg24 arg25 harg25 hc0 hc1 x0 x1
      x2 x3 x4 x5 x6 x7 x8 x9 xs0 xs1 xs2 xs3 xs4 xs5 xs6).2.2.2.2.2.2.2.2.2.2.1 =
    accPieces (fun B => View.readAt (Elt F) arg22.view B (harg22.unread xs6)) (drSum (insHeld i arg2 harg2 arg3 harg3 arg4 harg4 arg5 harg5 arg6 harg6 arg7 harg7 arg16 harg16 arg17 harg17 arg18
      harg18 arg19 harg19 arg20 harg20 arg23 arg24 arg25 x0 x1 x2 x3 x4 x5 xs0 xs1 xs2 xs3 xs4)) := (rfl)

/-- The gradient of `l` written out. -/
theorem runC_dl :
    (kernelRun0_C
      c i arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18
      arg19 harg19 arg20 harg20 arg21 harg21 arg22 harg22 arg23 harg23 arg24 harg24 arg25 harg25 hc0 hc1 x0 x1
      x2 x3 x4 x5 x6 x7 x8 x9 xs0 xs1 xs2 xs3 xs4 xs5 xs6).2.2.1 =
    dlOuts arg21 (accPieces (fun B => View.readAt (Elt F) arg21.view B (harg21.unread xs5)) (dlSum (insHeld i arg2 harg2 arg3 harg3 arg4 harg4 arg5 harg5 arg6 harg6 arg7 harg7 arg16 harg16 arg17 harg17 arg18
      harg18 arg19 harg19 arg20 harg20 arg23 arg24 arg25 x0 x1 x2 x3 x4 x5 xs0 xs1 xs2 xs3 xs4))) := (rfl)

/-- The gradient of `r` written out. -/
theorem runC_dr :
    (kernelRun0_C
      c i arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18
      arg19 harg19 arg20 harg20 arg21 harg21 arg22 harg22 arg23 harg23 arg24 harg24 arg25 harg25 hc0 hc1 x0 x1
      x2 x3 x4 x5 x6 x7 x8 x9 xs0 xs1 xs2 xs3 xs4 xs5 xs6).2.2.2.1 =
    drOuts arg22 (accPieces (fun B => View.readAt (Elt F) arg22.view B (harg22.unread xs6)) (drSum (insHeld i arg2 harg2 arg3 harg3 arg4 harg4 arg5 harg5 arg6 harg6 arg7 harg7 arg16 harg16 arg17 harg17 arg18
      harg18 arg19 harg19 arg20 harg20 arg23 arg24 arg25 x0 x1 x2 x3 x4 x5 xs0 xs1 xs2 xs3 xs4))) := (rfl)

end Cert.KernelIdeal.Model

end
-- ==== Proof.OutC.lean ====
/-
  What the last point leaves in its outputs and in the scratch.
-/
module

public import proofs.«01_k».proof.Proof.Point
public import proofs.«01_k».proof.Proof.CaseC
public import proofs.«01_k».proof.Proof.Gen.KernelIdeal.Frame

@[expose] public section

set_option maxRecDepth 16384

noncomputable section

namespace Cert.KernelIdeal.Model

open Idealize.ShloMosaic Idealize.SL.Sem Idealize.ShloMosaic.TcCoe Cert.KernelIdeal.Gen

variable
  (c : Dev nD) (i : grid0.Coords) (arg2 : Memref sig .tc .vmem S1x2048x1024 .fp8e5m2) (harg2 : arg2.IsWhole) (arg3 :
  Memref sig .tc .vmem S8x2048 .f32) (harg3 : arg3.IsWhole) (arg4 : Memref sig .tc .vmem S1x2048x1024 .fp8e4m3)
  (harg4 : arg4.IsWhole) (arg5 : Memref sig .tc .vmem S8x2048 .f32) (harg5 : arg5.IsWhole) (arg6 : Memref sig .tc
  .vmem S1x16x8x2048 .fp8e4m3) (harg6 : arg6.IsWhole) (arg7 : Memref sig .tc .vmem S8x2048 .f32) (harg7 :
  arg7.IsWhole) (arg8 : Memref sig .tc .vmem S16x8x64 .fp8e4m3) (harg8 : arg8.IsWhole) (arg9 : Memref sig .tc .smem
  S16 .f32) (harg9 : arg9.IsWhole) (arg10 : Memref sig .tc .vmem S8x16x128 .fp8e4m3) (harg10 : arg10.IsWhole) (arg11
  : Memref sig .tc .smem S8 .f32) (harg11 : arg11.IsWhole) (arg12 : Memref sig .tc .vmem S1x2048x1024 .bf16) (harg12
  : arg12.IsWhole) (arg13 : Memref sig .tc .vmem S1x16x8x2048 .bf16) (harg13 : arg13.IsWhole) (arg14 : Memref sig
  .tc .vmem S8x16x128 .f32) (harg14 : arg14.IsWhole) (arg15 : Memref sig .tc .vmem S16x8x64 .f32) (harg15 :
  arg15.IsWhole) (arg16 : Memref sig .tc .vmem S256x256 .fp8e4m3) (harg16 : arg16.IsWhole) (arg17 : Memref sig .tc
  .vmem S128x256 .fp8e4m3) (harg17 : arg17.IsWhole) (arg18 : Memref sig .tc .vmem S128x1024 .bf16) (harg18 :
  arg18.IsWhole) (arg19 : Memref sig .tc .vmem S128x128 .f32) (harg19 : arg19.IsWhole) (arg20 : Memref sig .tc .vmem
  S8x1024 .f32) (harg20 : arg20.IsWhole) (arg21 : Memref sig .tc .vmem S128x256 .f32) (harg21 : arg21.IsWhole)
  (arg22 : Memref sig .tc .vmem S128x256 .f32) (harg22 : arg22.IsWhole) (arg23 : Memref sig .tc .vmem S1024x2048
  .fp8e5m2) (harg23 : arg23.IsWhole) (arg24 : Memref sig .tc .vmem S2x128x128 .f32) (harg24 : arg24.IsWhole) (arg25
  : Memref sig .tc .vmem S2x128x128 .f32) (harg25 : arg25.IsWhole)
variable (hc0 : ¬cond0_0 i) (hc1 : cond0_1 i)
variable (x0 : Vec Ideal S1x2048x1024 .fp8e5m2) (x1 : Vec Ideal S8x2048 .f32) (x2 : Vec Ideal S1x2048x1024
  .fp8e4m3) (x3 : Vec Ideal S8x2048 .f32) (x4 : Vec Ideal S1x16x8x2048 .fp8e4m3) (x5 : Vec Ideal S8x2048 .f32)
  (x6 : Vec Ideal S16x8x64 .fp8e4m3) (x7 : Vec Ideal S16 .f32) (x8 : Vec Ideal S8x16x128 .fp8e4m3) (x9 : Vec
  Ideal S8 .f32)
variable (xs5 xs6 : Vec Ideal S128x256 .f32)

/-- Its block of `dx`. -/
theorem c_dx :
    out0_C_10
      c i arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18
      arg19 harg19 arg20 harg20 arg21 harg21 arg22 harg22 arg23 harg23 arg24 harg24 arg25 harg25 hc0 hc1 x0 x1
      x2 x3 x4 x5 x6 x7 x8 x9 permW (ltW (valsOf i x0 x1 x2 x3 x4 x5 x6 x7 x8 x9)) (rbW (valsOf i x0 x1 x2 x3
      x4 x5 x6 x7 x8 x9)) (lscW (valsOf i x0 x1 x2 x3 x4 x5 x6 x7 x8 x9)) (rsrW (valsOf i x0 x1 x2 x3 x4 x5 x6
      x7 x8 x9)) xs5 xs6 =
    (valsOf i x0 x1 x2 x3 x4 x5 x6 x7 x8 x9).dxBlk := by
  unfold out0_C_10
  rw [View.read_writes_junk_eq_canon, runC_dx]
  exact dx_canon (reads_held i arg2 harg2 arg3 harg3 arg4 harg4 arg5 harg5 arg6 harg6 arg7 harg7 arg16 harg16 arg17 harg17 arg18 harg18 arg19 harg19 arg20 harg20 arg23 arg24 arg25 x0 x1 x2 x3 x4 x5 x6 x7 x8 x9)

/-- Its block of `dh`. -/
theorem c_dh :
    out0_C_11
      c i arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18
      arg19 harg19 arg20 harg20 arg21 harg21 arg22 harg22 arg23 harg23 arg24 harg24 arg25 harg25 hc0 hc1 x0 x1
      x2 x3 x4 x5 x6 x7 x8 x9 permW (ltW (valsOf i x0 x1 x2 x3 x4 x5 x6 x7 x8 x9)) (rbW (valsOf i x0 x1 x2 x3
      x4 x5 x6 x7 x8 x9)) (lscW (valsOf i x0 x1 x2 x3 x4 x5 x6 x7 x8 x9)) (rsrW (valsOf i x0 x1 x2 x3 x4 x5 x6
      x7 x8 x9)) xs5 xs6 =
    (valsOf i x0 x1 x2 x3 x4 x5 x6 x7 x8 x9).dhBlk := by
  unfold out0_C_11
  rw [View.read_writes_junk_eq_canon, runC_dh]
  exact dh_canon (reads_held i arg2 harg2 arg3 harg3 arg4 harg4 arg5 harg5 arg6 harg6 arg7 harg7 arg16 harg16 arg17 harg17 arg18 harg18 arg19 harg19 arg20 harg20 arg23 arg24 arg25 x0 x1 x2 x3 x4 x5 x6 x7 x8 x9)

/-- The accumulated gradient of `l`. -/
theorem c_dlAcc :
    sout0_C_5
      c i arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18
      arg19 harg19 arg20 harg20 arg21 harg21 arg22 harg22 arg23 harg23 arg24 harg24 arg25 harg25 hc0 hc1 x0 x1
      x2 x3 x4 x5 x6 x7 x8 x9 permW (ltW (valsOf i x0 x1 x2 x3 x4 x5 x6 x7 x8 x9)) (rbW (valsOf i x0 x1 x2 x3
      x4 x5 x6 x7 x8 x9)) (lscW (valsOf i x0 x1 x2 x3 x4 x5 x6 x7 x8 x9)) (rsrW (valsOf i x0 x1 x2 x3 x4 x5 x6
      x7 x8 x9)) xs5 xs6 =
    accAdd xs5 (valsOf i x0 x1 x2 x3 x4 x5 x6 x7 x8 x9).dlTile := by
  unfold sout0_C_5
  rw [View.read_writes_junk_eq_canon, runC_dlAcc, canon_accPieces xs5 _ (read_held arg21 harg21 xs5), dlSum_eq (reads_held i arg2 harg2 arg3 harg3 arg4 harg4 arg5 harg5 arg6 harg6 arg7 harg7 arg16 harg16 arg17 harg17 arg18 harg18 arg19 harg19 arg20 harg20 arg23 arg24 arg25 x0 x1 x2 x3 x4 x5 x6 x7 x8 x9)]

/-- The accumulated gradient of `r`. -/
theorem c_drAcc :
    sout0_C_6
      c i arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18
      arg19 harg19 arg20 harg20 arg21 harg21 arg22 harg22 arg23 harg23 arg24 harg24 arg25 harg25 hc0 hc1 x0 x1
      x2 x3 x4 x5 x6 x7 x8 x9 permW (ltW (valsOf i x0 x1 x2 x3 x4 x5 x6 x7 x8 x9)) (rbW (valsOf i x0 x1 x2 x3
      x4 x5 x6 x7 x8 x9)) (lscW (valsOf i x0 x1 x2 x3 x4 x5 x6 x7 x8 x9)) (rsrW (valsOf i x0 x1 x2 x3 x4 x5 x6
      x7 x8 x9)) xs5 xs6 =
    accAdd xs6 (valsOf i x0 x1 x2 x3 x4 x5 x6 x7 x8 x9).drTile := by
  unfold sout0_C_6
  rw [View.read_writes_junk_eq_canon, runC_drAcc, canon_accPieces xs6 _ (read_held arg22 harg22 xs6), drSum_eq (reads_held i arg2 harg2 arg3 harg3 arg4 harg4 arg5 harg5 arg6 harg6 arg7 harg7 arg16 harg16 arg17 harg17 arg18 harg18 arg19 harg19 arg20 harg20 arg23 arg24 arg25 x0 x1 x2 x3 x4 x5 x6 x7 x8 x9)]

/-- The gradient of `l` it writes. -/
theorem c_dl :
    out0_C_12
      c i arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18
      arg19 harg19 arg20 harg20 arg21 harg21 arg22 harg22 arg23 harg23 arg24 harg24 arg25 harg25 hc0 hc1 x0 x1
      x2 x3 x4 x5 x6 x7 x8 x9 permW (ltW (valsOf i x0 x1 x2 x3 x4 x5 x6 x7 x8 x9)) (rbW (valsOf i x0 x1 x2 x3
      x4 x5 x6 x7 x8 x9)) (lscW (valsOf i x0 x1 x2 x3 x4 x5 x6 x7 x8 x9)) (rsrW (valsOf i x0 x1 x2 x3 x4 x5 x6
      x7 x8 x9)) xs5 xs6 =
    dlOf (accAdd xs5 (valsOf i x0 x1 x2 x3 x4 x5 x6 x7 x8 x9).dlTile) := by
  unfold out0_C_12
  rw [View.read_writes_junk_eq_canon, runC_dl, canon_dlOuts, canon_accPieces xs5 _ (read_held arg21 harg21 xs5), dlSum_eq (reads_held i arg2 harg2 arg3 harg3 arg4 harg4 arg5 harg5 arg6 harg6 arg7 harg7 arg16 harg16 arg17 harg17 arg18 harg18 arg19 harg19 arg20 harg20 arg23 arg24 arg25 x0 x1 x2 x3 x4 x5 x6 x7 x8 x9)]

/-- The gradient of `r` it writes. -/
theorem c_dr :
    out0_C_13
      c i arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18
      arg19 harg19 arg20 harg20 arg21 harg21 arg22 harg22 arg23 harg23 arg24 harg24 arg25 harg25 hc0 hc1 x0 x1
      x2 x3 x4 x5 x6 x7 x8 x9 permW (ltW (valsOf i x0 x1 x2 x3 x4 x5 x6 x7 x8 x9)) (rbW (valsOf i x0 x1 x2 x3
      x4 x5 x6 x7 x8 x9)) (lscW (valsOf i x0 x1 x2 x3 x4 x5 x6 x7 x8 x9)) (rsrW (valsOf i x0 x1 x2 x3 x4 x5 x6
      x7 x8 x9)) xs5 xs6 =
    drOf (accAdd xs6 (valsOf i x0 x1 x2 x3 x4 x5 x6 x7 x8 x9).drTile) := by
  unfold out0_C_13
  rw [View.read_writes_junk_eq_canon, runC_dr, canon_drOuts, canon_accPieces xs6 _ (read_held arg22 harg22 xs6), drSum_eq (reads_held i arg2 harg2 arg3 harg3 arg4 harg4 arg5 harg5 arg6 harg6 arg7 harg7 arg16 harg16 arg17 harg17 arg18 harg18 arg19 harg19 arg20 harg20 arg23 arg24 arg25 x0 x1 x2 x3 x4 x5 x6 x7 x8 x9)]

end Cert.KernelIdeal.Model

end
-- ==== Proof.Carry.lean ====
/-
  What the scratch holds from point to point: the prepared weights, and the two accumulators' running sums.
-/
module

public import proofs.«01_k».proof.Proof.Blocks
public import proofs.«01_k».proof.Proof.OutA
public import proofs.«01_k».proof.Proof.OutB
public import proofs.«01_k».proof.Proof.OutC

@[expose] public section

set_option maxRecDepth 16384

noncomputable section

namespace Cert.KernelIdeal.Model

open Idealize.ShloMosaic Idealize.SL.Sem Idealize.ShloMosaic.TcCoe Cert.KernelIdeal Cert.KernelIdeal.Gen

variable (m : (ℓ : Loc nD τ sig) → Buf (Elt Ideal) ℓ) (c : Dev nD)

/-! ### Every point reads the same weights -/

theorem ltW_vals (t u : Fin cfg0.N) : ltW (vals m c t) = ltW (vals m c u) := by
  funext y
  unfold ltW
  rw [vals_l, vals_l]

theorem rbW_vals (t u : Fin cfg0.N) : rbW (vals m c t) = rbW (vals m c u) := by
  funext y
  unfold rbW
  rw [vals_r, vals_r]

theorem lscW_vals (t u : Fin cfg0.N) : lscW (vals m c t) = lscW (vals m c u) := by
  funext y
  unfold lscW
  rw [vals_ls, vals_ls]

theorem rsrW_vals (t u : Fin cfg0.N) : rsrW (vals m c t) = rsrW (vals m c u) := by
  funext y
  unfold rsrW
  rw [vals_rs, vals_rs]

/-- The prepared weights are in the scratch after point `n`. -/
structure Held (n : ℕ) (hn : n < cfg0.N) : Prop where
  perm : (outsAt0 m c n hn).2.2.2.2.1 = permW
  lt : (outsAt0 m c n hn).2.2.2.2.2.1 = ltW (vals m c ⟨n, hn⟩)
  rb : (outsAt0 m c n hn).2.2.2.2.2.2.1 = rbW (vals m c ⟨n, hn⟩)
  lsc : (outsAt0 m c n hn).2.2.2.2.2.2.2.1 = lscW (vals m c ⟨n, hn⟩)
  rsr : (outsAt0 m c n hn).2.2.2.2.2.2.2.2.1 = rsrW (vals m c ⟨n, hn⟩)

/-- What the first point leaves. -/
theorem at_A (t : Fin cfg0.N) (h0 : t.val % 32 = 0) (h1 : ¬t.val % 32 = 31) :
    (outsAt0 m c t.val t.isLt).1 = (vals m c t).dxBlk ∧ (outsAt0 m c t.val t.isLt).2.1 = (vals m c t).dhBlk
    ∧ Held m c t.val t.isLt
    ∧ (outsAt0 m c t.val t.isLt).2.2.2.2.2.2.2.2.2.1 = accAdd (fun _ => (0 : EReal)) (vals m c t).dlTile
    ∧ (outsAt0 m c t.val t.isLt).2.2.2.2.2.2.2.2.2.2 = accAdd (fun _ => (0 : EReal)) (vals m c t).drTile := by
  have e := outsAt0_A m c t h0 h1
  refine ⟨?_, ?_, ⟨?_, ?_, ?_, ?_, ?_⟩, ?_, ?_⟩ <;> rw [e] <;> dsimp only
  · exact a_dx ..
  · exact a_dh ..
  · exact a_perm ..
  · exact a_lt ..
  · exact a_rb ..
  · exact a_lsc ..
  · exact a_rsr ..
  · exact a_dlAcc ..
  · exact a_drAcc ..

/-- The weights after the point before `t`, as `t` sees them. -/
theorem held_before {t : Fin cfg0.N} (H : Held m c (t.val - 1) (Nat.lt_of_le_of_lt (Nat.sub_le _ _) t.isLt)) :
    (outsAt0 m c (t.val - 1) (Nat.lt_of_le_of_lt (Nat.sub_le _ _) t.isLt)).2.2.2.2.1 = permW
    ∧ (outsAt0 m c (t.val - 1) (Nat.lt_of_le_of_lt (Nat.sub_le _ _) t.isLt)).2.2.2.2.2.1 = ltW (vals m c t)
    ∧ (outsAt0 m c (t.val - 1) (Nat.lt_of_le_of_lt (Nat.sub_le _ _) t.isLt)).2.2.2.2.2.2.1 = rbW (vals m c t)
    ∧ (outsAt0 m c (t.val - 1) (Nat.lt_of_le_of_lt (Nat.sub_le _ _) t.isLt)).2.2.2.2.2.2.2.1 = lscW (vals m c t)
    ∧ (outsAt0 m c (t.val - 1) (Nat.lt_of_le_of_lt (Nat.sub_le _ _) t.isLt)).2.2.2.2.2.2.2.2.1 = rsrW (vals m c t) :=
  ⟨H.perm, H.lt.trans (ltW_vals m c _ _), H.rb.trans (rbW_vals m c _ _), H.lsc.trans (lscW_vals m c _ _), H.rsr.trans (rsrW_vals m c _ _)⟩

/-- What a middle point leaves. -/
theorem at_B (t : Fin cfg0.N) (h0 : ¬t.val % 32 = 0) (h1 : ¬t.val % 32 = 31)
    (H : Held m c (t.val - 1) (Nat.lt_of_le_of_lt (Nat.sub_le _ _) t.isLt)) :
    (outsAt0 m c t.val t.isLt).1 = (vals m c t).dxBlk ∧ (outsAt0 m c t.val t.isLt).2.1 = (vals m c t).dhBlk
    ∧ Held m c t.val t.isLt
    ∧ (outsAt0 m c t.val t.isLt).2.2.2.2.2.2.2.2.2.1
      = accAdd (outsAt0 m c (t.val - 1) (Nat.lt_of_le_of_lt (Nat.sub_le _ _) t.isLt)).2.2.2.2.2.2.2.2.2.1 (vals m c t).dlTile
    ∧ (outsAt0 m c t.val t.isLt).2.2.2.2.2.2.2.2.2.2
      = accAdd (outsAt0 m c (t.val - 1) (Nat.lt_of_le_of_lt (Nat.sub_le _ _) t.isLt)).2.2.2.2.2.2.2.2.2.2 (vals m c t).drTile := by
  have e := outsAt0_B m c t h0 h1
  obtain ⟨w0, w1, w2, w3, w4⟩ := held_before m c H
  rw [w0, w1, w2, w3, w4] at e
  refine ⟨?_, ?_, ⟨?_, ?_, ?_, ?_, ?_⟩, ?_, ?_⟩ <;> rw [e] <;> dsimp only
  · exact b_dx ..
  · exact b_dh ..
  · unfold sout0_B_0; rfl
  · unfold sout0_B_1; rfl
  · unfold sout0_B_2; rfl
  · unfold sout0_B_3; rfl
  · unfold sout0_B_4; rfl
  · exact b_dlAcc ..
  · exact b_drAcc ..

/-- What the last point leaves. -/
theorem at_C (t : Fin cfg0.N) (h0 : ¬t.val % 32 = 0) (h1 : t.val % 32 = 31)
    (H : Held m c (t.val - 1) (Nat.lt_of_le_of_lt (Nat.sub_le _ _) t.isLt)) :
    (outsAt0 m c t.val t.isLt).1 = (vals m c t).dxBlk ∧ (outsAt0 m c t.val t.isLt).2.1 = (vals m c t).dhBlk
    ∧ Held m c t.val t.isLt
    ∧ (outsAt0 m c t.val t.isLt).2.2.1
      = dlOf (accAdd (outsAt0 m c (t.val - 1) (Nat.lt_of_le_of_lt (Nat.sub_le _ _) t.isLt)).2.2.2.2.2.2.2.2.2.1 (vals m c t).dlTile)
    ∧ (outsAt0 m c t.val t.isLt).2.2.2.1
      = drOf (accAdd (outsAt0 m c (t.val - 1) (Nat.lt_of_le_of_lt (Nat.sub_le _ _) t.isLt)).2.2.2.2.2.2.2.2.2.2 (vals m c t).drTile) := by
  have e := outsAt0_C m c t h0 h1
  obtain ⟨w0, w1, w2, w3, w4⟩ := held_before m c H
  rw [w0, w1, w2, w3, w4] at e
  refine ⟨?_, ?_, ⟨?_, ?_, ?_, ?_, ?_⟩, ?_, ?_⟩ <;> rw [e] <;> dsimp only
  · exact c_dx ..
  · exact c_dh ..
  · unfold sout0_C_0; rfl
  · unfold sout0_C_1; rfl
  · unfold sout0_C_2; rfl
  · unfold sout0_C_3; rfl
  · unfold sout0_C_4; rfl
  · exact c_dl ..
  · exact c_dr ..

/-! ### The running sums -/

/-- The accumulated gradient of `l` after point `n`. -/
def dlAcc (n : ℕ) (hn : n < cfg0.N) : FVec Ideal S128x256 .f32 := fun y =>
  (∑ k : Fin (n + 1), (vals m c ⟨k.val, Nat.lt_of_lt_of_le k.isLt hn⟩).dlTile ⟨(y 0).val / 32, Nat.div_lt_of_lt_mul (y 0).isLt⟩
    (ix2 ⟨(y 0).val % 32, Nat.mod_lt _ (by decide)⟩ (y 1)) : EReal)

/-- The accumulated gradient of `r` after point `n`. -/
def drAcc (n : ℕ) (hn : n < cfg0.N) : FVec Ideal S128x256 .f32 := fun y =>
  (∑ k : Fin (n + 1), (vals m c ⟨k.val, Nat.lt_of_lt_of_le k.isLt hn⟩).drTile ⟨(y 0).val / 32, Nat.div_lt_of_lt_mul (y 0).isLt⟩
    (ix2 ⟨(y 0).val % 32, Nat.mod_lt _ (by decide)⟩ (y 1)) : EReal)

theorem dlAcc_zero (h : 0 < cfg0.N) : accAdd (fun _ => (0 : EReal)) (vals m c ⟨0, h⟩).dlTile = dlAcc m c 0 h := by
  funext y
  unfold dlAcc
  rw [Fin.sum_univ_one]
  exact zero_add _

theorem drAcc_zero (h : 0 < cfg0.N) : accAdd (fun _ => (0 : EReal)) (vals m c ⟨0, h⟩).drTile = drAcc m c 0 h := by
  funext y
  unfold drAcc
  rw [Fin.sum_univ_one]
  exact zero_add _

theorem dlAcc_succ (n : ℕ) (h : n + 1 < cfg0.N) :
    accAdd (dlAcc m c n (Nat.lt_of_succ_lt h)) (vals m c ⟨n + 1, h⟩).dlTile = dlAcc m c (n + 1) h := by
  funext y
  unfold dlAcc
  rw [Fin.sum_univ_castSucc]
  rfl

theorem drAcc_succ (n : ℕ) (h : n + 1 < cfg0.N) :
    accAdd (drAcc m c n (Nat.lt_of_succ_lt h)) (vals m c ⟨n + 1, h⟩).drTile = drAcc m c (n + 1) h := by
  funext y
  unfold drAcc
  rw [Fin.sum_univ_castSucc]
  rfl

/-- After every point but the last: the weights, and the running sums. -/
theorem carried : ∀ (n : ℕ) (hn : n < cfg0.N), n < 31 → Held m c n hn
    ∧ (outsAt0 m c n hn).2.2.2.2.2.2.2.2.2.1 = dlAcc m c n hn ∧ (outsAt0 m c n hn).2.2.2.2.2.2.2.2.2.2 = drAcc m c n hn
  | 0, hn, _ => by
    obtain ⟨-, -, H, e1, e2⟩ := at_A m c ⟨0, hn⟩ (Nat.zero_mod _) (by show ¬0 % 32 = 31; omega)
    exact ⟨H, e1.trans (dlAcc_zero m c hn), e2.trans (drAcc_zero m c hn)⟩
  | n + 1, hn, h31 => by
    obtain ⟨H0, f1, f2⟩ := carried n (Nat.lt_of_succ_lt hn) (by omega)
    obtain ⟨-, -, H, e1, e2⟩ := at_B m c ⟨n + 1, hn⟩ (by show ¬(n + 1) % 32 = 0; omega) (by show ¬(n + 1) % 32 = 31; omega) H0
    refine ⟨H, e1.trans ?_, e2.trans ?_⟩
    · exact (congrArg (accAdd · _) f1).trans (dlAcc_succ m c n hn)
    · exact (congrArg (accAdd · _) f2).trans (drAcc_succ m c n hn)

/-- The block of `dx` every point writes. -/
theorem outs_dx (t : Fin cfg0.N) : (outsAt0 m c t.val t.isLt).1 = (vals m c t).dxBlk ∧ (outsAt0 m c t.val t.isLt).2.1 = (vals m c t).dhBlk := by
  have ht : t.val < 32 := t.isLt
  by_cases h0 : t.val % 32 = 0
  · obtain ⟨e1, e2, -⟩ := at_A m c t h0 (by omega)
    exact ⟨e1, e2⟩
  have H := (carried m c (t.val - 1) (Nat.lt_of_le_of_lt (Nat.sub_le _ _) t.isLt) (by omega)).1
  by_cases h1 : t.val % 32 = 31
  · obtain ⟨e1, e2, -⟩ := at_C m c t h0 h1 H
    exact ⟨e1, e2⟩
  · obtain ⟨e1, e2, -⟩ := at_B m c t h0 h1 H
    exact ⟨e1, e2⟩

/-- The gradients of the weights, written by the last point. -/
theorem outs_last : ∀ t : Fin cfg0.N, t.val % 32 = 31 →
    (outsAt0 m c t.val t.isLt).2.2.1 = dlOf (dlAcc m c t.val t.isLt) ∧ (outsAt0 m c t.val t.isLt).2.2.2.1 = drOf (drAcc m c t.val t.isLt)
  | ⟨0, _⟩, h1 => absurd h1 (by show ¬0 % 32 = 31; omega)
  | ⟨n + 1, hn⟩, h1 => by
    have hN : n + 1 < 32 := hn
    have h1' : (n + 1) % 32 = 31 := h1
    obtain ⟨H0, f1, f2⟩ := carried m c n (Nat.lt_of_succ_lt hn) (by omega)
    obtain ⟨-, -, -, e1, e2⟩ := at_C m c ⟨n + 1, hn⟩ (by show ¬(n + 1) % 32 = 0; omega) h1 H0
    refine ⟨e1.trans ?_, e2.trans ?_⟩
    · exact congrArg dlOf ((congrArg (accAdd · _) f1).trans (dlAcc_succ m c n hn))
    · exact congrArg drOf ((congrArg (accAdd · _) f2).trans (drAcc_succ m c n hn))

end Cert.KernelIdeal.Model
-- ==== Proof.Spec.lean ====
/-
  The four results as plain sums over the arguments: what the kernel and the reference both compute.
-/
module

public import proofs.«01_k».proof.Proof.Gen.KernelIdeal
public import Idealize.ShloMosaic.Lib.ValueIdx
public import Idealize.ShloMosaic.Lib.Pipeline.ValueKit

@[expose] public section

set_option maxRecDepth 16384

noncomputable section

namespace Cert.Spec

open Idealize.ShloMosaic Cert.KernelIdeal

variable (dy : Vec Ideal S32x2048x1024 .fp8e5m2) (dys : Vec Ideal S32x2048 .f32) (x : Vec Ideal S32x2048x1024 .fp8e4m3)
  (xs : Vec Ideal S32x2048 .f32) (h : Vec Ideal S32x2048x16x8 .fp8e4m3) (hs : Vec Ideal S32x2048 .f32)
  (r : Vec Ideal S16x8x64 .fp8e4m3) (rs : Vec Ideal S16 .f32) (l : Vec Ideal S8x128x16 .fp8e4m3) (ls : Vec Ideal S8 .f32)

/-- The lane of digit `q` of step `s` in a row of `dy`. -/
def dyLane (s : Fin 128) (q : Fin 8) : Fin 1024 := ⟨s.val * 8 + q.val, by omega⟩

/-- The lane of entry `p` of head `k` in a row of `x`. -/
def xLane (k : Fin 16) (p : Fin 64) : Fin 1024 := ⟨k.val * 64 + p.val, by omega⟩

/-- The gradient of `h`. -/
def dh (b : Fin 32) (t : Fin 2048) (k : Fin 16) (q : Fin 8) : EReal :=
  (∑ s : Fin 128, (l (ix3 q s k) * dy (ix3 b t (dyLane s q)) : EReal)) * dys (ix2 b t) * ls (ix1 q)

/-- The gradient of `x`. -/
def dx (b : Fin 32) (t : Fin 2048) (n : Fin 1024) : EReal :=
  (∑ q : Fin 8, (dh dy dys l ls b t ⟨n.val / 64, by omega⟩ q * r (ix3 ⟨n.val / 64, by omega⟩ q ⟨n.val % 64, by omega⟩) : EReal))
    * rs (ix1 ⟨n.val / 64, by omega⟩)

/-- The gradient of `l`. -/
def dl (q : Fin 8) (s : Fin 128) (k : Fin 16) : EReal :=
  ∑ b : Fin 32, ∑ t : Fin 2048, ((h (ix4 b t k q) * hs (ix2 b t)) * (dy (ix3 b t (dyLane s q)) * dys (ix2 b t)) : EReal)

/-- The gradient of `r`. -/
def dr (k : Fin 16) (q : Fin 8) (p : Fin 64) : EReal :=
  ∑ b : Fin 32, ∑ t : Fin 2048, (dh dy dys l ls b t k q * (x (ix3 b t (xLane k p)) * xs (ix2 b t)) : EReal)

end Cert.Spec
-- ==== Proof.Arrays.lean ====
/-
  What the kernel leaves in its four result arrays, as the plain sums of `Spec` over its arguments.
-/
module

public import proofs.«01_k».proof.Proof.Carry
public import proofs.«01_k».proof.Proof.Spec

@[expose] public section

set_option maxRecDepth 16384

noncomputable section

namespace Cert.KernelIdeal.Model

open Idealize.ShloMosaic Idealize.SL.Sem Idealize.ShloMosaic.TcCoe Cert.KernelIdeal Cert.KernelIdeal.Gen

variable (m : (ℓ : Loc nD τ sig) → Buf (Elt Ideal) ℓ) (c : Dev nD)

/-! ### The arguments -/

abbrev aDy : Vec Ideal S32x2048x1024 .fp8e5m2 := m ((c : Thread nD τ).loc main_arg0)
abbrev aDys : Vec Ideal S32x2048 .f32 := m ((c : Thread nD τ).loc main_arg1)
abbrev aX : Vec Ideal S32x2048x1024 .fp8e4m3 := m ((c : Thread nD τ).loc main_arg2)
abbrev aXs : Vec Ideal S32x2048 .f32 := m ((c : Thread nD τ).loc main_arg3)
abbrev aH : Vec Ideal S32x2048x16x8 .fp8e4m3 := m ((c : Thread nD τ).loc main_arg4)
abbrev aHs : Vec Ideal S32x2048 .f32 := m ((c : Thread nD τ).loc main_arg5)
abbrev aR : Vec Ideal S16x8x64 .fp8e4m3 := m ((c : Thread nD τ).loc main_arg6)
abbrev aRs : Vec Ideal S16 .f32 := m ((c : Thread nD τ).loc main_arg7)
abbrev aL : Vec Ideal S8x128x16 .fp8e4m3 := m ((c : Thread nD τ).loc main_arg8)
abbrev aLs : Vec Ideal S8 .f32 := m ((c : Thread nD τ).loc main_arg9)

/-- The gradient of `h`, read over the arguments. -/
def gDh (b : Fin 32) (t : Fin 2048) (k : Fin 16) (q : Fin 8) : EReal := Spec.dh (aDy m c) (aDys m c) (aL m c) (aLs m c) b t k q

/-- A point's `dh` is the `dh` of its batch row. -/
theorem vals_dh (t : Fin cfg0.N) (k : Fin 16) (q : Fin 8) (s : Fin 2048) : (vals m c t).dh k q s = gDh m c (brow t) s k q := by
  unfold Vals.dh gDh Spec.dh
  rw [vals_dys, vals_ls]
  refine congrArg₂ (· * ·) (congrArg₂ (· * ·) (Finset.sum_congr rfl fun s' _ => ?_) rfl) rfl
  unfold Vals.dyE
  rw [vals_l, vals_dy]
  rfl

/-- The gradient of `x`, as an array. -/
def gDx : Vec Ideal S32x2048x1024 .bf16 := fun y =>
  Spec.dx (aDy m c) (aDys m c) (aR m c) (aRs m c) (aL m c) (aLs m c) (y 0) (y 1) (y 2)

/-- The gradient of `h`, as the kernel lays it out. -/
def gDhT : Vec Ideal S32x16x8x2048 .bf16 := fun y => gDh m c (y 0) (y 3) (y 1) (y 2)

/-- The gradient of `l`, as the kernel lays it out. -/
def gDlT : Vec Ideal S8x16x128 .f32 := fun y => Spec.dl (aDy m c) (aDys m c) (aH m c) (aHs m c) (y 0) (y 2) (y 1)

/-- The gradient of `r`, as an array. -/
def gDr : Vec Ideal S16x8x64 .f32 := fun y =>
  Spec.dr (aDy m c) (aDys m c) (aX m c) (aXs m c) (aL m c) (aLs m c) (y 0) (y 1) (y 2)

/-- A point's block of `dx` is its batch row of the gradient. -/
theorem dxBlk_at (t : Fin cfg0.N) (z : Fin 1) (s : Fin 2048) (n : Fin 1024) :
    (vals m c t).dxBlk (ix3 z s n) = gDx m c (ix3 (brow t) s n) := by
  show (∑ q : Fin 8, (vals m c t).dh ⟨n.val / 64, _⟩ q s * (vals m c t).r (ix3 ⟨n.val / 64, _⟩ q ⟨n.val % 64, _⟩)) * (vals m c t).rs (ix1 ⟨n.val / 64, _⟩)
    = Spec.dx (aDy m c) (aDys m c) (aR m c) (aRs m c) (aL m c) (aLs m c) (brow t) s n
  unfold Spec.dx
  rw [vals_rs]
  refine congrArg₂ (· * ·) (Finset.sum_congr rfl fun q _ => ?_) rfl
  rw [vals_dh, vals_r]
  rfl

theorem hsc_at (t : Fin cfg0.N) (k : Fin 16) (q : Fin 8) (s : Fin 2048) : (vals m c t).hsc k q s
    = aH m c (ix4 (brow t) s k q) * aHs m c (ix2 (brow t) s) * aDys m c (ix2 (brow t) s) := by
  unfold Vals.hsc
  rw [vals_h, vals_hs, vals_dys]

theorem dyE_at (t : Fin cfg0.N) (q : Fin 8) (s : Fin 128) (u : Fin 2048) :
    (vals m c t).dyE q s u = aDy m c (ix3 (brow t) u (Spec.dyLane s q)) := by
  unfold Vals.dyE
  rw [vals_dy]
  rfl

/-- The summed tiles, where `dl` reads them. -/
theorem dlTerm_at (t : Fin cfg0.N) (q : Fin 8) (k : Fin 16) (s : Fin 128) (j : Fin 4) (r : Fin 32) (n : Fin 256) (u : Fin 2048)
    (hj : j.val = (q.val * 16 + k.val) / 32) (hr : r.val = (q.val * 16 + k.val) % 32) (hn : n.val = q.val % 2 * 128 + s.val) :
    (vals m c t).dlT j r n u = (aH m c (ix4 (brow t) u k q) * aHs m c (ix2 (brow t) u))
      * (aDy m c (ix3 (brow t) u (Spec.dyLane s q)) * aDys m c (ix2 (brow t) u)) := by
  unfold Vals.dlT
  rw [hsc_at, dyE_at]
  have e1 : (⟨r.val % 16, Nat.mod_lt _ (by decide)⟩ : Fin 16) = k := Fin.ext (by show r.val % 16 = k.val; omega)
  have e2 : (⟨j.val * 2 + r.val / 16, by omega⟩ : Fin 8) = q := Fin.ext (by show j.val * 2 + r.val / 16 = q.val; omega)
  have e3 : (⟨j.val * 2 + n.val / 128, by omega⟩ : Fin 8) = q := Fin.ext (by show j.val * 2 + n.val / 128 = q.val; omega)
  have e4 : (⟨n.val % 128, Nat.mod_lt _ (by decide)⟩ : Fin 128) = s := Fin.ext (by show n.val % 128 = s.val; omega)
  rw [e1, e2, e3, e4, mul_assoc, mul_comm (aDys m c _)]

/-- The summed tiles, where `dr` reads them. -/
theorem drTerm_at (t : Fin cfg0.N) (k : Fin 16) (q : Fin 8) (p : Fin 64) (j : Fin 4) (r : Fin 32) (n : Fin 256) (u : Fin 2048)
    (hj : j.val = (k.val * 8 + q.val) / 32) (hr : r.val = (k.val * 8 + q.val) % 32) (hn : n.val = k.val % 4 * 64 + p.val) :
    (vals m c t).drT j r n u = gDh m c (brow t) u k q * (aX m c (ix3 (brow t) u (Spec.xLane k p)) * aXs m c (ix2 (brow t) u)) := by
  unfold Vals.drT Vals.dhRow
  rw [vals_dh, vals_xs, vals_x]
  have e1 : (⟨(row j r).val / 8, by omega⟩ : Fin 16) = k := Fin.ext (by show (j.val * 32 + r.val) / 8 = k.val; omega)
  have e2 : (⟨(row j r).val % 8, Nat.mod_lt _ (by decide)⟩ : Fin 8) = q := Fin.ext (by show (j.val * 32 + r.val) % 8 = q.val; omega)
  have e3 : lane j n = Spec.xLane k p := Fin.ext (by show j.val * 256 + n.val = k.val * 64 + p.val; omega)
  rw [e1, e2, e3, mul_assoc, mul_comm (aXs m c _)]

/-- A sum over the points is a sum over the batch rows. -/
theorem sum_points {n : ℕ} (hn : n = 31) (h : n < cfg0.N) (f : Fin 32 → EReal) :
    (∑ k : Fin (n + 1), f (brow ⟨k.val, Nat.lt_of_lt_of_le k.isLt h⟩)) = ∑ b : Fin 32, f b := by
  subst hn
  rfl

/-- What the last point writes of `dl`. -/
theorem dl_at {n : ℕ} (hn : n = 31) (h : n < cfg0.N) (q : Fin 8) (k : Fin 16) (s : Fin 128) :
    dlOf (dlAcc m c n h) (ix3 q k s) = gDlT m c (ix3 q k s) := by
  unfold dlOf dlAcc gDlT Vals.dlTile Spec.dl
  rw [← sum_points hn h]
  refine Finset.sum_congr rfl fun b _ => Finset.sum_congr rfl fun u _ => ?_
  exact dlTerm_at m c _ q k s _ _ _ u rfl rfl rfl

/-- What the last point writes of `dr`. -/
theorem dr_at {n : ℕ} (hn : n = 31) (h : n < cfg0.N) (k : Fin 16) (q : Fin 8) (p : Fin 64) :
    drOf (drAcc m c n h) (ix3 k q p) = gDr m c (ix3 k q p) := by
  unfold drOf drAcc gDr Vals.drTile Spec.dr
  rw [← sum_points hn h]
  refine Finset.sum_congr rfl fun b _ => Finset.sum_congr rfl fun u _ => ?_
  exact drTerm_at m c _ k q p _ _ _ u rfl rfl rfl

/-! ### The arrays after the run -/

theorem arr_dx : (dats m 0 c).arrAt 10 (cfgs 0).N = gDx m c := by
  refine (dats m 0 c).arrAt_eq_of_covers 10 _ (by decide +kernel) fun t hf y => ?_
  blk_simp
  rw [after0_10, (outs_dx m c t).1]
  obtain ⟨z, s, n, rfl⟩ : ∃ (z : Fin 1) (s : Fin 2048) (n : Fin 1024), y = ix3 z s n := ⟨y 0, y 1, y 2, idx3_ext rfl rfl rfl⟩
  refine (dxBlk_at m c t z s n).trans ?_
  unfold brow
  blk_ext [idx t]

theorem arr_dh : (dats m 0 c).arrAt 11 (cfgs 0).N = gDhT m c := by
  refine (dats m 0 c).arrAt_eq_of_covers 11 _ (by decide +kernel) fun t hf y => ?_
  blk_simp
  rw [after0_11, (outs_dx m c t).2]
  obtain ⟨z, k, q, s, rfl⟩ : ∃ (z : Fin 1) (k : Fin 16) (q : Fin 8) (s : Fin 2048), y = ix4 z k q s := ⟨y 0, y 1, y 2, y 3, idx4_ext rfl rfl rfl rfl⟩
  refine (vals_dh m c t k q s).trans ?_
  show gDhT m c (ix4 (brow t) k q s) = _
  unfold brow
  blk_ext [idx t]

theorem arr_dl : (dats m 0 c).arrAt 12 (cfgs 0).N = gDlT m c := by
  refine (dats m 0 c).arrAt_eq_of_covers 12 _ (by decide +kernel) fun t hf y => ?_
  have h1 := (flush0_12 t).mp hf
  have ht : t.val < 32 := t.isLt
  blk_simp
  rw [after0_12, (outs_last m c t h1).1]
  obtain ⟨q, k, s, rfl⟩ : ∃ (q : Fin 8) (k : Fin 16) (s : Fin 128), y = ix3 q k s := ⟨y 0, y 1, y 2, idx3_ext rfl rfl rfl⟩
  refine (dl_at m c (by omega) t.isLt q k s).trans ?_
  blk_ext [idx t]

theorem arr_dr : (dats m 0 c).arrAt 13 (cfgs 0).N = gDr m c := by
  refine (dats m 0 c).arrAt_eq_of_covers 13 _ (by decide +kernel) fun t hf y => ?_
  have h1 := (flush0_13 t).mp hf
  have ht : t.val < 32 := t.isLt
  blk_simp
  rw [after0_13, (outs_last m c t h1).2]
  obtain ⟨k, q, p, rfl⟩ : ∃ (k : Fin 16) (q : Fin 8) (p : Fin 64), y = ix3 k q p := ⟨y 0, y 1, y 2, idx3_ext rfl rfl rfl⟩
  refine (dr_at m c (by omega) t.isLt k q p).trans ?_
  blk_ext [idx t]

end Cert.KernelIdeal.Model
-- ==== Proof.RefRegion.lean ====
/-
  The reference's region widens the formats of five arguments: over the extended reals it leaves them as they are.
-/
module

public import proofs.«01_k».proof.Proof.Gen.ReferenceIdeal.Read
public import Idealize.ShloMosaic.Lib.Pipeline.ValueKit

@[expose] public section

set_option maxRecDepth 16384

noncomputable section

namespace Cert.ReferenceIdeal.Region

open Idealize.ShloMosaic Idealize.SL.Sem Idealize.ShloMosaic.TcCoe Cert.ReferenceIdeal Cert.ReferenceIdeal.Gen Cert.ReferenceIdeal.Value

/-- The block index of every window. -/
theorem idx : ∀ t : Fin cfg0.N, win0_0.index t = ![0, 0, 0] ∧ win0_1.index t = ![0, 0, 0] ∧ win0_2.index t = ![0, 0, 0, 0]
    ∧ win0_3.index t = ![0, 0, 0] ∧ win0_4.index t = ![0, 0, 0] ∧ win0_5.index t = ![0, 0, 0] ∧ win0_6.index t = ![0, 0, 0]
    ∧ win0_7.index t = ![0, 0, 0, 0] ∧ win0_8.index t = ![0, 0, 0] ∧ win0_9.index t = ![0, 0, 0] :=
  (by decide +kernel : ∀ t : Fin grid0.N, _)

variable (m : (ℓ : Loc nD τ sig) → Buf (Elt Ideal) ℓ) (c : Dev nD)

/-- `dy` after the region. -/
theorem reg_dy (i : S32x2048x1024.Idx) : reg_main_v0_0 m c i = m ((c.tc : Thread nD τ).loc main_arg0) i := by
  unfold reg_main_v0_0
  refine congrFun ((dats m 0 c).arrAt_eq_of_after_last 5 t0_0 (by decide +kernel) (m ((c.tc : Thread nD τ).loc main_arg0)) fun j => ?_) i
  blk_simp
  rw [after0_5]
  frame_out
  pointwise [k0_pay1]
  blk_ext [iblk, V, idx t0_0]

/-- `x` after the region. -/
theorem reg_x (i : S32x2048x1024.Idx) : reg_main_v0_1 m c i = m ((c.tc : Thread nD τ).loc main_arg2) i := by
  unfold reg_main_v0_1
  refine congrFun ((dats m 0 c).arrAt_eq_of_after_last 6 t0_0 (by decide +kernel) (m ((c.tc : Thread nD τ).loc main_arg2)) fun j => ?_) i
  blk_simp
  rw [after0_6]
  frame_out
  pointwise [k0_pay2]
  blk_ext [iblk, V, idx t0_0]

/-- `h` after the region. -/
theorem reg_h (i : S32x2048x16x8.Idx) : reg_main_v0_2 m c i = m ((c.tc : Thread nD τ).loc main_arg4) i := by
  unfold reg_main_v0_2
  refine congrFun ((dats m 0 c).arrAt_eq_of_after_last 7 t0_0 (by decide +kernel) (m ((c.tc : Thread nD τ).loc main_arg4)) fun j => ?_) i
  blk_simp
  rw [after0_7]
  frame_out
  pointwise [k0_pay3]
  blk_ext [iblk, V, idx t0_0]

/-- `r` after the region. -/
theorem reg_r (i : S16x8x64.Idx) : reg_main_v0_3 m c i = m ((c.tc : Thread nD τ).loc main_arg6) i := by
  unfold reg_main_v0_3
  refine congrFun ((dats m 0 c).arrAt_eq_of_after_last 8 t0_0 (by decide +kernel) (m ((c.tc : Thread nD τ).loc main_arg6)) fun j => ?_) i
  blk_simp
  rw [after0_8]
  frame_out
  pointwise [k0_pay4]
  blk_ext [iblk, V, idx t0_0]

/-- `l` after the region. -/
theorem reg_l (i : S8x128x16.Idx) : reg_main_v0_4 m c i = m ((c.tc : Thread nD τ).loc main_arg8) i := by
  unfold reg_main_v0_4
  refine congrFun ((dats m 0 c).arrAt_eq_of_after_last 9 t0_0 (by decide +kernel) (m ((c.tc : Thread nD τ).loc main_arg8)) fun j => ?_) i
  blk_simp
  rw [after0_9]
  frame_out
  pointwise [k0_pay5]
  blk_ext [iblk, V, idx t0_0]

end Cert.ReferenceIdeal.Region
-- ==== Proof.RefSpec.lean ====
/-
  The reference's results, element by element, as the plain sums of `Spec`.
-/
module

public import proofs.«01_k».proof.Proof.Gen.ReferenceIdeal.Read
public import Idealize.ShloMosaic.Lib.Pipeline.ValueKit
public import proofs.«01_k».proof.Proof.Spec

@[expose] public section

set_option maxRecDepth 16384

noncomputable section

namespace Cert.ReferenceIdeal.Region

open Idealize.ShloMosaic Idealize.SL.Sem Idealize.ShloMosaic.TcCoe Cert.ReferenceIdeal Cert.ReferenceIdeal.Gen Cert.ReferenceIdeal.Read

variable (dys xs hs : (⟨S32x2048, .f32⟩ : BufTy).Contents (Elt Ideal)) (rs : (⟨S16, .f32⟩ : BufTy).Contents (Elt Ideal))
  (ls : (⟨S8, .f32⟩ : BufTy).Contents (Elt Ideal)) (dy x : (⟨S32x2048x1024, .bf16⟩ : BufTy).Contents (Elt Ideal))
  (h : (⟨S32x2048x16x8, .bf16⟩ : BufTy).Contents (Elt Ideal)) (r : (⟨S16x8x64, .bf16⟩ : BufTy).Contents (Elt Ideal))
  (l : (⟨S8x128x16, .bf16⟩ : BufTy).Contents (Elt Ideal))

/-- A row of `dy` read as steps of digits. -/
theorem v1_at (b : Fin 32) (t : Fin 2048) (s : Fin 128) (q : Fin 8) :
    val_main_v1 (F := Ideal) dy (ix4 b t s q) = dy (ix3 b t (Spec.dyLane s q)) := by
  rw [val_main_v1_apply]
  unfold Spec.dyLane
  blk_ext

/-- A row of `x` read as heads. -/
theorem v2_at (b : Fin 32) (t : Fin 2048) (k : Fin 16) (p : Fin 64) :
    val_main_v2 (F := Ideal) x (ix4 b t k p) = x (ix3 b t (Spec.xLane k p)) := by
  rw [val_main_v2_apply]
  unfold Spec.xLane
  blk_ext

/-- The reference's `dh`. -/
theorem v11_at (b : Fin 32) (t : Fin 2048) (k : Fin 16) (q : Fin 8) :
    val_main_v11 (F := Ideal) dys ls dy l (ix4 b t k q) = Spec.dh dy dys l ls b t k q := by
  rw [val_main_v11_apply, val_main_v10_apply, val_main_v7_apply, val_main_v4_apply, val_main_v3_apply, val_main_v6_apply, val_main_v5_apply,
    val_main_v9_apply, val_main_v8_apply]
  show (∑ s : Fin 128, (_ * _ : EReal)) * _ * _ = _
  unfold Spec.dh
  refine congrArg₂ (· * ·) (congrArg₂ (· * ·) (Finset.sum_congr rfl fun s _ => congrArg₂ (· * ·) ?_ ?_) ?_) ?_
  · blk_ext
  · refine Eq.trans ?_ (v1_at dy b t s q)
    blk_ext
  · blk_ext
  · blk_ext

/-- The reference's gradient of `x`. -/
theorem v32_at (b : Fin 32) (t : Fin 2048) (n : Fin 1024) :
    val_main_v32 (F := Ideal) dys rs ls dy r l (ix3 b t n) = Spec.dx dy dys r rs l ls b t n := by
  rw [val_main_v32_apply, val_main_v31_apply, val_main_v30_apply, val_main_v27_apply, val_main_v26_apply, val_main_v29_apply, val_main_v28_apply]
  show (∑ q : Fin 8, (_ * _ : EReal)) * _ = _
  unfold Spec.dx
  refine congrArg₂ (· * ·) (Finset.sum_congr rfl fun q _ => ?_) ?_
  · rw [mul_comm]
    refine congrArg₂ (· * ·) ?_ ?_
    · refine Eq.trans ?_ (v11_at dys ls dy l b t ⟨n.val / 64, by omega⟩ q)
      blk_ext
    · blk_ext
  · blk_ext

/-- The reference's gradient of `l`. -/
theorem v20_at (q : Fin 8) (s : Fin 128) (k : Fin 16) :
    val_main_v20 (F := Ideal) dys hs dy h (ix3 q s k) = Spec.dl dy dys h hs q s k := by
  unfold val_main_v20 Spec.dl
  pointwise
  refine Finset.sum_congr rfl fun b _ => Finset.sum_congr rfl fun t _ => ?_
  rw [val_main_v15_apply, val_main_v19_apply, v1_at, val_main_v14_apply, val_main_v13_apply, val_main_v12_apply, val_main_v18_apply,
    val_main_v17_apply, val_main_v16_apply]
  show (_ * _ : EReal) * (_ * _) = _
  rw [mul_comm]
  refine congrArg₂ (· * ·) (congrArg₂ (· * ·) ?_ ?_) (congrArg₂ (· * ·) ?_ ?_)
  · rfl
  · exact congrArg hs (by blk_ext)
  · rfl
  · exact congrArg dys (by blk_ext)

/-- The reference's gradient of `r`. -/
theorem v25_at (k : Fin 16) (q : Fin 8) (p : Fin 64) :
    val_main_v25 (F := Ideal) dys xs ls dy x l (ix3 k q p) = Spec.dr dy dys x xs l ls k q p := by
  unfold val_main_v25 Spec.dr
  pointwise
  refine Finset.sum_congr rfl fun b _ => Finset.sum_congr rfl fun t _ => ?_
  rw [v11_at, val_main_v24_apply, v2_at, val_main_v23_apply, val_main_v22_apply, val_main_v21_apply]
  show (_ : EReal) * (_ * _) = _
  refine congrArg₂ (· * ·) rfl (congrArg₂ (· * ·) rfl ?_)
  exact congrArg xs (by blk_ext)

end Cert.ReferenceIdeal.Region
-- ==== Proof.Results.lean ====
/-
  Both programs' results over the extended reals are the plain sums of `Spec`: the algebraic claim.
-/
module

public import proofs.«01_k».proof.Proof.Arrays
public import proofs.«01_k».proof.Proof.RefRegion
public import proofs.«01_k».proof.Proof.RefSpec
public import Idealize.ShloMosaic.Lib.Claim

@[expose] public section

set_option maxRecDepth 16384

noncomputable section

namespace Cert.KernelIdeal.Model

open Idealize.ShloMosaic Idealize.SL.Sem Idealize.ShloMosaic.TcCoe Cert.KernelIdeal Cert.KernelIdeal.Gen Idealize.ShloMosaic.StableHlo

variable (m : (ℓ : Loc nD τ sig) → Buf (Elt Ideal) ℓ) (c : Dev nD)

/-- The gradient of `h`, in the layout of the result. -/
def gDhOut : Vec Ideal S32x2048x16x8 .bf16 := fun y => gDh m c (y 0) (y 1) (y 2) (y 3)

/-- The gradient of `l`, in the layout of the result. -/
def gDlOut : Vec Ideal S8x128x16 .f32 := fun y => Spec.dl (aDy m c) (aDys m c) (aH m c) (aHs m c) (y 0) (y 1) (y 2)

/-- The contents of the buffers when the region ends. -/
abbrev exitV : Valuation τ sig (Elt Ideal) := Pipeline.withArrays spec0 c (V0 m c) fun w => (dats m 0 c).arrAt w cfg0.N

theorem exit_dh : exitV m c (Proc.devRef .tc main_v2_1) = gDhT m c :=
  (Pipeline.withArrays_arr spec0 launch0.win.arr_inj c (V0 m c) _ 11).trans (arr_dh m c)

theorem exit_dl : exitV m c (Proc.devRef .tc main_v2_2) = gDlT m c :=
  (Pipeline.withArrays_arr spec0 launch0.win.arr_inj c (V0 m c) _ 12).trans (arr_dl m c)

/-- The host turns `dh` around. -/
theorem tail_dh (V0 : Valuation τ sig (Elt Ideal)) : after (List.flatten [hostOps1]) V0 (Proc.devRef .tc main_v3)
    = transpose S32x2048x16x8 [0, 3, 1, 2] (V0 (Proc.devRef .tc main_v2_1)) transposes_S32x16x8x2048_S32x2048x16x8_0_3_1_2 := by
  simp only [hostOps1, List.flatten_cons, List.flatten_nil, List.append_nil, List.cons_append, List.nil_append]
  after_results_simp <;> rfl

/-- The host turns `dl` around. -/
theorem tail_dl (V0 : Valuation τ sig (Elt Ideal)) : after (List.flatten [hostOps1]) V0 (Proc.devRef .tc main_v4)
    = transpose S8x128x16 [0, 2, 1] (V0 (Proc.devRef .tc main_v2_2)) transposes_S8x16x128_S8x128x16_0_2_1 := by
  simp only [hostOps1, List.flatten_cons, List.flatten_nil, List.append_nil, List.cons_append, List.nil_append]
  after_results_simp <;> rfl

theorem fin_dh : Pipeline.afterTail₀ cfgs (dats m) 0 (V0 m) [hostOps1] c main_v3 = gDhOut m c := by
  refine (tail_dh (exitV m c)).trans ?_
  rw [exit_dh]
  funext y
  obtain ⟨b, t, k, q, rfl⟩ : ∃ (b : Fin 32) (t : Fin 2048) (k : Fin 16) (q : Fin 8), y = ix4 b t k q := ⟨y 0, y 1, y 2, y 3, idx4_ext rfl rfl rfl rfl⟩
  pointwise
  rfl

theorem fin_dl : Pipeline.afterTail₀ cfgs (dats m) 0 (V0 m) [hostOps1] c main_v4 = gDlOut m c := by
  refine (tail_dl (exitV m c)).trans ?_
  rw [exit_dl]
  funext y
  obtain ⟨q, s, k, rfl⟩ : ∃ (q : Fin 8) (s : Fin 128) (k : Fin 16), y = ix3 q s k := ⟨y 0, y 1, y 2, idx3_ext rfl rfl rfl⟩
  pointwise
  rfl

end Cert.KernelIdeal.Model

namespace Cert.ReferenceIdeal.Region

open Idealize.ShloMosaic Idealize.SL.Sem Idealize.ShloMosaic.TcCoe Cert.ReferenceIdeal Cert.ReferenceIdeal.Gen Cert.ReferenceIdeal.Read Cert.ReferenceIdeal.Value

variable (m : (ℓ : Loc nD τ sig) → Buf (Elt Ideal) ℓ) (c : Dev nD)

theorem region_eqs : reg_main_v0_0 m c = m ((c.tc : Thread nD τ).loc main_arg0) ∧ reg_main_v0_1 m c = m ((c.tc : Thread nD τ).loc main_arg2)
    ∧ reg_main_v0_2 m c = m ((c.tc : Thread nD τ).loc main_arg4) ∧ reg_main_v0_3 m c = m ((c.tc : Thread nD τ).loc main_arg6)
    ∧ reg_main_v0_4 m c = m ((c.tc : Thread nD τ).loc main_arg8) :=
  ⟨funext (reg_dy m c), funext (reg_x m c), funext (reg_h m c), funext (reg_r m c), funext (reg_l m c)⟩

theorem fin_dx (b : Fin 32) (t : Fin 2048) (n : Fin 1024) :
    Pipeline.afterTail₀ cfgs (dats m) 0 (V0 m) [hostOps1] c main_v32 (ix3 b t n)
    = Spec.dx (m ((c.tc : Thread nD τ).loc main_arg0)) (m ((c.tc : Thread nD τ).loc main_arg1)) (m ((c.tc : Thread nD τ).loc main_arg6))
      (m ((c.tc : Thread nD τ).loc main_arg7)) (m ((c.tc : Thread nD τ).loc main_arg8)) (m ((c.tc : Thread nD τ).loc main_arg9)) b t n := by
  obtain ⟨e0, e1, e2, e3, e4⟩ := region_eqs m c
  refine (congrFun ((tail_main_v32 (exitV m c)).trans (val_main_v32_eq (exitV m c))) (ix3 b t n)).trans ?_
  rw [exit_main_arg1, exit_main_arg7, exit_main_arg9, exit_main_v0_0, exit_main_v0_3, exit_main_v0_4, e0, e3, e4]
  exact v32_at _ _ _ _ _ _ b t n

theorem fin_dh (b : Fin 32) (t : Fin 2048) (k : Fin 16) (q : Fin 8) :
    Pipeline.afterTail₀ cfgs (dats m) 0 (V0 m) [hostOps1] c main_v11 (ix4 b t k q)
    = Spec.dh (m ((c.tc : Thread nD τ).loc main_arg0)) (m ((c.tc : Thread nD τ).loc main_arg1)) (m ((c.tc : Thread nD τ).loc main_arg8))
      (m ((c.tc : Thread nD τ).loc main_arg9)) b t k q := by
  obtain ⟨e0, e1, e2, e3, e4⟩ := region_eqs m c
  refine (congrFun ((tail_main_v11 (exitV m c)).trans (val_main_v11_eq (exitV m c))) (ix4 b t k q)).trans ?_
  rw [exit_main_arg1, exit_main_arg9, exit_main_v0_0, exit_main_v0_4, e0, e4]
  exact v11_at _ _ _ _ b t k q

theorem fin_dl (q : Fin 8) (s : Fin 128) (k : Fin 16) :
    Pipeline.afterTail₀ cfgs (dats m) 0 (V0 m) [hostOps1] c main_v20 (ix3 q s k)
    = Spec.dl (m ((c.tc : Thread nD τ).loc main_arg0)) (m ((c.tc : Thread nD τ).loc main_arg1)) (m ((c.tc : Thread nD τ).loc main_arg4))
      (m ((c.tc : Thread nD τ).loc main_arg5)) q s k := by
  obtain ⟨e0, e1, e2, e3, e4⟩ := region_eqs m c
  refine (congrFun ((tail_main_v20 (exitV m c)).trans (val_main_v20_eq (exitV m c))) (ix3 q s k)).trans ?_
  rw [exit_main_arg1, exit_main_arg5, exit_main_v0_0, exit_main_v0_2, e0, e2]
  exact v20_at _ _ _ _ q s k

theorem fin_dr (k : Fin 16) (q : Fin 8) (p : Fin 64) :
    Pipeline.afterTail₀ cfgs (dats m) 0 (V0 m) [hostOps1] c main_v25 (ix3 k q p)
    = Spec.dr (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg8)) (m ((c.tc : Thread nD τ).loc main_arg9)) k q p := by
  obtain ⟨e0, e1, e2, e3, e4⟩ := region_eqs m c
  refine (congrFun ((tail_main_v25 (exitV m c)).trans (val_main_v25_eq (exitV m c))) (ix3 k q p)).trans ?_
  rw [exit_main_arg1, exit_main_arg3, exit_main_arg9, exit_main_v0_0, exit_main_v0_1, exit_main_v0_4, e0, e1, e4]
  exact v25_at _ _ _ _ _ _ k q p

end Cert.ReferenceIdeal.Region
-- ==== Proof.Algebraic.lean ====
/-
  The algebraic claim: over the extended reals the kernel and the reference end with the same four results.
-/
module

public import proofs.«01_k».proof.Defs
public import proofs.«01_k».proof.Proof.Results

@[expose] public section

set_option maxRecDepth 16384

noncomputable section

namespace Cert.KernelIdeal.Model

open Idealize.ShloMosaic Idealize.SL.Sem Idealize.ShloMosaic.TcCoe Cert.KernelIdeal Cert.KernelIdeal.Gen

/-- The kernel's run: its results are the sums of `Spec`, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2_0) = gDx m c
      ∧ r.2.mem ((c.tc : Thread nD τ).loc main_v3) = gDhOut m c
      ∧ r.2.mem ((c.tc : Thread nD τ).loc main_v4) = gDlOut m c
      ∧ r.2.mem ((c.tc : Thread nD τ).loc main_v2_3) = gDr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨((h c).1 10).trans (arr_dx m c),
      ((h c).2 main_v3 (Pipeline.mem_restRefs_of main_v3 (by decide) (by decide))).trans (fin_dh m c),
      ((h c).2 main_v4 (Pipeline.mem_restRefs_of main_v4 (by decide) (by decide))).trans (fin_dl m c),
      ((h c).1 13).trans (arr_dr m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).2 main_arg8 (Pipeline.mem_restRefs_of main_arg8 (by decide) (by decide))).trans (W_main_arg8 m (dats m) c),
      ((h c).1 9).trans (((dats m 0 c).arrAt_in 9 rfl _).trans ((A_eq m c 9).trans (V_main_arg9 m c)))⟩) (run_main m ρ)

end Cert.KernelIdeal.Model

namespace Cert.ReferenceIdeal.Region

open Idealize.ShloMosaic Idealize.SL.Sem Idealize.ShloMosaic.TcCoe Cert.ReferenceIdeal Cert.ReferenceIdeal.Gen

/-- The reference's run, from a memory whose arguments are the kernel's: it ends with the same results. -/
theorem run_same (mk : (ℓ : Loc Cert.KernelIdeal.nD Cert.KernelIdeal.τ Cert.KernelIdeal.sig) → Buf (Elt Ideal) ℓ)
    (m : (ℓ : Loc nD τ sig) → Buf (Elt Ideal) ℓ) (ρ : Dev nD → PrngReg)
    (hm : ∀ c : Dev nD, m ((c.tc : Thread nD τ).loc main_arg0) = mk ((c.tc : Thread Cert.KernelIdeal.nD Cert.KernelIdeal.τ).loc Cert.KernelIdeal.main_arg0)
      ∧ m ((c.tc : Thread nD τ).loc main_arg1) = mk ((c.tc : Thread Cert.KernelIdeal.nD Cert.KernelIdeal.τ).loc Cert.KernelIdeal.main_arg1)
      ∧ m ((c.tc : Thread nD τ).loc main_arg2) = mk ((c.tc : Thread Cert.KernelIdeal.nD Cert.KernelIdeal.τ).loc Cert.KernelIdeal.main_arg2)
      ∧ m ((c.tc : Thread nD τ).loc main_arg3) = mk ((c.tc : Thread Cert.KernelIdeal.nD Cert.KernelIdeal.τ).loc Cert.KernelIdeal.main_arg3)
      ∧ m ((c.tc : Thread nD τ).loc main_arg4) = mk ((c.tc : Thread Cert.KernelIdeal.nD Cert.KernelIdeal.τ).loc Cert.KernelIdeal.main_arg4)
      ∧ m ((c.tc : Thread nD τ).loc main_arg5) = mk ((c.tc : Thread Cert.KernelIdeal.nD Cert.KernelIdeal.τ).loc Cert.KernelIdeal.main_arg5)
      ∧ m ((c.tc : Thread nD τ).loc main_arg6) = mk ((c.tc : Thread Cert.KernelIdeal.nD Cert.KernelIdeal.τ).loc Cert.KernelIdeal.main_arg6)
      ∧ m ((c.tc : Thread nD τ).loc main_arg7) = mk ((c.tc : Thread Cert.KernelIdeal.nD Cert.KernelIdeal.τ).loc Cert.KernelIdeal.main_arg7)
      ∧ m ((c.tc : Thread nD τ).loc main_arg8) = mk ((c.tc : Thread Cert.KernelIdeal.nD Cert.KernelIdeal.τ).loc Cert.KernelIdeal.main_arg8)
      ∧ m ((c.tc : Thread nD τ).loc main_arg9) = mk ((c.tc : Thread Cert.KernelIdeal.nD Cert.KernelIdeal.τ).loc Cert.KernelIdeal.main_arg9)) :
    θ_run defs (onTc (τ := τ) (main (F := Ideal))) ⟨m, fun _ => 0, ρ⟩ fun r => ∀ c : Dev nD,
      r.2.mem ((c.tc : Thread nD τ).loc main_v32) = Cert.KernelIdeal.Model.gDx mk c
      ∧ r.2.mem ((c.tc : Thread nD τ).loc main_v11) = Cert.KernelIdeal.Model.gDhOut mk c
      ∧ r.2.mem ((c.tc : Thread nD τ).loc main_v20) = Cert.KernelIdeal.Model.gDlOut mk c
      ∧ r.2.mem ((c.tc : Thread nD τ).loc main_v25) = Cert.KernelIdeal.Model.gDr mk c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine (θ_run defs _ _).mono (fun r h c => ⟨?_, ?_, ?_, ?_, ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).2 main_arg3 (Pipeline.mem_restRefs_of main_arg3 (by decide) (by decide))).trans (W_main_arg3 m (dats m) c),
      ((h c).1 2).trans (((dats m 0 c).arrAt_in 2 rfl _).trans ((A_eq m c 2).trans (V_main_arg4 m c))),
      ((h c).2 main_arg5 (Pipeline.mem_restRefs_of main_arg5 (by decide) (by decide))).trans (W_main_arg5 m (dats m) c),
      ((h c).1 3).trans (((dats m 0 c).arrAt_in 3 rfl _).trans ((A_eq m c 3).trans (V_main_arg6 m c))),
      ((h c).2 main_arg7 (Pipeline.mem_restRefs_of main_arg7 (by decide) (by decide))).trans (W_main_arg7 m (dats m) c),
      ((h c).1 4).trans (((dats m 0 c).arrAt_in 4 rfl _).trans ((A_eq m c 4).trans (V_main_arg8 m c))),
      ((h c).2 main_arg9 (Pipeline.mem_restRefs_of main_arg9 (by decide) (by decide))).trans (W_main_arg9 m (dats m) c)⟩) (run_main m ρ)
  · refine ((h c).2 main_v32 (Pipeline.mem_restRefs_of main_v32 (by decide) (by decide))).trans ?_
    obtain ⟨e0, e1, e2, e3, e4, e5, e6, e7, e8, e9⟩ := hm c
    refine funext fun (y : S32x2048x1024.Idx) => ?_
    obtain ⟨b, t, n, rfl⟩ : ∃ (b : Fin 32) (t : Fin 2048) (n : Fin 1024), y = ix3 b t n := ⟨y 0, y 1, y 2, Cert.KernelIdeal.Model.idx3_ext rfl rfl rfl⟩
    refine (fin_dx m c b t n).trans ?_
    rw [e0, e1, e6, e7, e8, e9]
    rfl
  · refine ((h c).2 main_v11 (Pipeline.mem_restRefs_of main_v11 (by decide) (by decide))).trans ?_
    obtain ⟨e0, e1, e2, e3, e4, e5, e6, e7, e8, e9⟩ := hm c
    refine funext fun (y : S32x2048x16x8.Idx) => ?_
    obtain ⟨b, t, k, q, rfl⟩ : ∃ (b : Fin 32) (t : Fin 2048) (k : Fin 16) (q : Fin 8), y = ix4 b t k q := ⟨y 0, y 1, y 2, y 3, Cert.KernelIdeal.Model.idx4_ext rfl rfl rfl rfl⟩
    refine (fin_dh m c b t k q).trans ?_
    rw [e0, e1, e8, e9]
    rfl
  · refine ((h c).2 main_v20 (Pipeline.mem_restRefs_of main_v20 (by decide) (by decide))).trans ?_
    obtain ⟨e0, e1, e2, e3, e4, e5, e6, e7, e8, e9⟩ := hm c
    refine funext fun (y : S8x128x16.Idx) => ?_
    obtain ⟨q, s, k, rfl⟩ : ∃ (q : Fin 8) (s : Fin 128) (k : Fin 16), y = ix3 q s k := ⟨y 0, y 1, y 2, Cert.KernelIdeal.Model.idx3_ext rfl rfl rfl⟩
    refine (fin_dl m c q s k).trans ?_
    rw [e0, e1, e4, e5]
    rfl
  · refine ((h c).2 main_v25 (Pipeline.mem_restRefs_of main_v25 (by decide) (by decide))).trans ?_
    obtain ⟨e0, e1, e2, e3, e4, e5, e6, e7, e8, e9⟩ := hm c
    refine funext fun (y : S16x8x64.Idx) => ?_
    obtain ⟨k, q, p, rfl⟩ : ∃ (k : Fin 16) (q : Fin 8) (p : Fin 64), y = ix3 k q p := ⟨y 0, y 1, y 2, Cert.KernelIdeal.Model.idx3_ext rfl rfl rfl⟩
    refine (fin_dr m c k q p).trans ?_
    rw [e0, e1, e2, e3, e8, e9]
    rfl

end Cert.ReferenceIdeal.Region

/-- The claim. -/
theorem Cert.algebraic : Cert.algebraic_KernelIdeal_ReferenceIdeal (hKernelIdeal := Cert.KernelIdeal.Gen.facts)
    (hReferenceIdeal := Cert.ReferenceIdeal.Gen.facts) := by
  intro m g m' g' _ hm
  exact ⟨_, _, _, _, Cert.KernelIdeal.Model.run m g, Cert.ReferenceIdeal.Region.run_same m m' g' hm⟩
-- ==== Proof.lean ====
/-
  The proof of the claims. The three frames are the generated certificates. The program and its ideal reading are the same.
  That the kernel computes the reference's results is `Proof/Algebraic.lean`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Run
public import proofs.«01_k».proof.Proof.Gen.ReferenceIdeal.Read
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, by
  refine ⟨?_, ?_, ?_, ?_, ?_⟩
  · exact fun m ρ _ => Cert.Kernel.Gen.frame m ρ
  · exact fun m ρ _ => Cert.KernelIdeal.Gen.frame m ρ
  · exact fun m ρ _ => Cert.ReferenceIdeal.Gen.frame m ρ
  · trivial
  · exact Cert.algebraic⟩

end Cert.Proof

end
